-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_and_keys [hPre_finite_queries_and_keys : Cert.Pre_finite_queries_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_ConvMixer (m : (ℓ : Loc Cert.ConvMixer.nD Cert.ConvMixer.τ Cert.ConvMixer.sig) → Buf (Elt Bits) ℓ) : Prop :=
  True

def Pre_ConvMixerIdeal (m : (ℓ : Loc Cert.ConvMixerIdeal.nD Cert.ConvMixerIdeal.τ Cert.ConvMixerIdeal.sig) → Buf (Elt Ideal) ℓ) : Prop :=
  True

def Pre_ConvMixerRefIdeal (m : (ℓ : Loc Cert.ConvMixerRefIdeal.nD Cert.ConvMixerRefIdeal.τ Cert.ConvMixerRefIdeal.sig) → Buf (Elt Ideal) ℓ) : Prop :=
  True

def Pre_HeadQueries (m : (ℓ : Loc Cert.HeadQueries.nD Cert.HeadQueries.τ Cert.HeadQueries.sig) → Buf (Elt Bits) ℓ) : Prop :=
  True

def Pre_HeadQueriesIdeal (m : (ℓ : Loc Cert.HeadQueriesIdeal.nD Cert.HeadQueriesIdeal.τ Cert.HeadQueriesIdeal.sig) → Buf (Elt Ideal) ℓ) : Prop :=
  True

def Pre_HeadQueriesRefIdeal (m : (ℓ : Loc Cert.HeadQueriesRefIdeal.nD Cert.HeadQueriesRefIdeal.τ Cert.HeadQueriesRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_HeadKeys (m : (ℓ : Loc Cert.HeadKeys.nD Cert.HeadKeys.τ Cert.HeadKeys.sig) → Buf (Elt Bits) ℓ) : Prop :=
  True

def Pre_HeadKeysIdeal (m : (ℓ : Loc Cert.HeadKeysIdeal.nD Cert.HeadKeysIdeal.τ Cert.HeadKeysIdeal.sig) → Buf (Elt Ideal) ℓ) : Prop :=
  True

def Pre_HeadKeysRefIdeal (m : (ℓ : Loc Cert.HeadKeysRefIdeal.nD Cert.HeadKeysRefIdeal.τ Cert.HeadKeysRefIdeal.sig) → Buf (Elt Ideal) ℓ) : Prop :=
  True

def Pre_HeadValues (m : (ℓ : Loc Cert.HeadValues.nD Cert.HeadValues.τ Cert.HeadValues.sig) → Buf (Elt Bits) ℓ) : Prop :=
  True

def Pre_HeadValuesIdeal (m : (ℓ : Loc Cert.HeadValuesIdeal.nD Cert.HeadValuesIdeal.τ Cert.HeadValuesIdeal.sig) → Buf (Elt Ideal) ℓ) : Prop :=
  True

def Pre_HeadValuesRefIdeal (m : (ℓ : Loc Cert.HeadValuesRefIdeal.nD Cert.HeadValuesRefIdeal.τ Cert.HeadValuesRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_queries_and_keys [hAttnIdeal : Cert.AttnIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1))
      ∧ r.2.sem = fun _ => 0)

def quiescent_ConvMixer [hConvMixer : Cert.ConvMixer.Facts] : Prop :=
  ∀ (m : (ℓ : Loc Cert.ConvMixer.nD Cert.ConvMixer.τ Cert.ConvMixer.sig) → Buf (Elt Bits) ℓ) (g : Dev Cert.ConvMixer.nD → PrngReg), Pre_ConvMixer m →
    θ_run (Cert.ConvMixer.defs (F := Bits)) (onTc (τ := Cert.ConvMixer.τ) (Cert.ConvMixer.main (F := Bits))) ⟨m, fun _ => 0, g⟩ (fun r => (∀ c : Dev Cert.ConvMixer.nD,
      r.2.mem ((c.tc : Thread Cert.ConvMixer.nD Cert.ConvMixer.τ).loc Cert.ConvMixer.main_arg0) = m ((c.tc : Thread Cert.ConvMixer.nD Cert.ConvMixer.τ).loc Cert.ConvMixer.main_arg0)
      ∧ r.2.mem ((c.tc : Thread Cert.ConvMixer.nD Cert.ConvMixer.τ).loc Cert.ConvMixer.main_arg1) = m ((c.tc : Thread Cert.ConvMixer.nD Cert.ConvMixer.τ).loc Cert.ConvMixer.main_arg1))
      ∧ r.2.sem = fun _ => 0)

def quiescent_ConvMixerIdeal [hConvMixerIdeal : Cert.ConvMixerIdeal.Facts] : Prop :=
  ∀ (m : (ℓ : Loc Cert.ConvMixerIdeal.nD Cert.ConvMixerIdeal.τ Cert.ConvMixerIdeal.sig) → Buf (Elt Ideal) ℓ) (g : Dev Cert.ConvMixerIdeal.nD → PrngReg), Pre_ConvMixerIdeal m →
    θ_run (Cert.ConvMixerIdeal.defs (F := Ideal)) (onTc (τ := Cert.ConvMixerIdeal.τ) (Cert.ConvMixerIdeal.main (F := Ideal))) ⟨m, fun _ => 0, g⟩ (fun r => (∀ c : Dev Cert.ConvMixerIdeal.nD,
      r.2.mem ((c.tc : Thread Cert.ConvMixerIdeal.nD Cert.ConvMixerIdeal.τ).loc Cert.ConvMixerIdeal.main_arg0) = m ((c.tc : Thread Cert.ConvMixerIdeal.nD Cert.ConvMixerIdeal.τ).loc Cert.ConvMixerIdeal.main_arg0)
      ∧ r.2.mem ((c.tc : Thread Cert.ConvMixerIdeal.nD Cert.ConvMixerIdeal.τ).loc Cert.ConvMixerIdeal.main_arg1) = m ((c.tc : Thread Cert.ConvMixerIdeal.nD Cert.ConvMixerIdeal.τ).loc Cert.ConvMixerIdeal.main_arg1))
      ∧ r.2.sem = fun _ => 0)

def quiescent_ConvMixerRefIdeal [hConvMixerRefIdeal : Cert.ConvMixerRefIdeal.Facts] : Prop :=
  ∀ (m : (ℓ : Loc Cert.ConvMixerRefIdeal.nD Cert.ConvMixerRefIdeal.τ Cert.ConvMixerRefIdeal.sig) → Buf (Elt Ideal) ℓ) (g : Dev Cert.ConvMixerRefIdeal.nD → PrngReg), Pre_ConvMixerRefIdeal m →
    θ_run (Cert.ConvMixerRefIdeal.defs (F := Ideal)) (onTc (τ := Cert.ConvMixerRefIdeal.τ) (Cert.ConvMixerRefIdeal.main (F := Ideal))) ⟨m, fun _ => 0, g⟩ (fun r => (∀ c : Dev Cert.ConvMixerRefIdeal.nD,
      r.2.mem ((c.tc : Thread Cert.ConvMixerRefIdeal.nD Cert.ConvMixerRefIdeal.τ).loc Cert.ConvMixerRefIdeal.main_arg0) = m ((c.tc : Thread Cert.ConvMixerRefIdeal.nD Cert.ConvMixerRefIdeal.τ).loc Cert.ConvMixerRefIdeal.main_arg0)
      ∧ r.2.mem ((c.tc : Thread Cert.ConvMixerRefIdeal.nD Cert.ConvMixerRefIdeal.τ).loc Cert.ConvMixerRefIdeal.main_arg1) = m ((c.tc : Thread Cert.ConvMixerRefIdeal.nD Cert.ConvMixerRefIdeal.τ).loc Cert.ConvMixerRefIdeal.main_arg1))
      ∧ r.2.sem = fun _ => 0)

def quiescent_HeadQueries [hHeadQueries : Cert.HeadQueries.Facts] : Prop :=
  ∀ (m : (ℓ : Loc Cert.HeadQueries.nD Cert.HeadQueries.τ Cert.HeadQueries.sig) → Buf (Elt Bits) ℓ) (g : Dev Cert.HeadQueries.nD → PrngReg), Pre_HeadQueries m →
    θ_run (Cert.HeadQueries.defs (F := Bits)) (onTc (τ := Cert.HeadQueries.τ) (Cert.HeadQueries.main (F := Bits))) ⟨m, fun _ => 0, g⟩ (fun r => (∀ c : Dev Cert.HeadQueries.nD,
      r.2.mem ((c.tc : Thread Cert.HeadQueries.nD Cert.HeadQueries.τ).loc Cert.HeadQueries.main_arg0) = m ((c.tc : Thread Cert.HeadQueries.nD Cert.HeadQueries.τ).loc Cert.HeadQueries.main_arg0)
      ∧ r.2.mem ((c.tc : Thread Cert.HeadQueries.nD Cert.HeadQueries.τ).loc Cert.HeadQueries.main_arg1) = m ((c.tc : Thread Cert.HeadQueries.nD Cert.HeadQueries.τ).loc Cert.HeadQueries.main_arg1))
      ∧ r.2.sem = fun _ => 0)

def quiescent_HeadQueriesIdeal [hHeadQueriesIdeal : Cert.HeadQueriesIdeal.Facts] : Prop :=
  ∀ (m : (ℓ : Loc Cert.HeadQueriesIdeal.nD Cert.HeadQueriesIdeal.τ Cert.HeadQueriesIdeal.sig) → Buf (Elt Ideal) ℓ) (g : Dev Cert.HeadQueriesIdeal.nD → PrngReg), Pre_HeadQueriesIdeal m →
    θ_run (Cert.HeadQueriesIdeal.defs (F := Ideal)) (onTc (τ := Cert.HeadQueriesIdeal.τ) (Cert.HeadQueriesIdeal.main (F := Ideal))) ⟨m, fun _ => 0, g⟩ (fun r => (∀ c : Dev Cert.HeadQueriesIdeal.nD,
      r.2.mem ((c.tc : Thread Cert.HeadQueriesIdeal.nD Cert.HeadQueriesIdeal.τ).loc Cert.HeadQueriesIdeal.main_arg0) = m ((c.tc : Thread Cert.HeadQueriesIdeal.nD Cert.HeadQueriesIdeal.τ).loc Cert.HeadQueriesIdeal.main_arg0)
      ∧ r.2.mem ((c.tc : Thread Cert.HeadQueriesIdeal.nD Cert.HeadQueriesIdeal.τ).loc Cert.HeadQueriesIdeal.main_arg1) = m ((c.tc : Thread Cert.HeadQueriesIdeal.nD Cert.HeadQueriesIdeal.τ).loc Cert.HeadQueriesIdeal.main_arg1))
      ∧ r.2.sem = fun _ => 0)

def quiescent_HeadQueriesRefIdeal [hHeadQueriesRefIdeal : Cert.HeadQueriesRefIdeal.Facts] : Prop :=
  ∀ (m : (ℓ : Loc Cert.HeadQueriesRefIdeal.nD Cert.HeadQueriesRefIdeal.τ Cert.HeadQueriesRefIdeal.sig) → Buf (Elt Ideal) ℓ) (g : Dev Cert.HeadQueriesRefIdeal.nD → PrngReg), Pre_HeadQueriesRefIdeal m →
    θ_run (Cert.HeadQueriesRefIdeal.defs (F := Ideal)) (onTc (τ := Cert.HeadQueriesRefIdeal.τ) (Cert.HeadQueriesRefIdeal.main (F := Ideal))) ⟨m, fun _ => 0, g⟩ (fun r => (∀ c : Dev Cert.HeadQueriesRefIdeal.nD,
      r.2.mem ((c.tc : Thread Cert.HeadQueriesRefIdeal.nD Cert.HeadQueriesRefIdeal.τ).loc Cert.HeadQueriesRefIdeal.main_arg0) = m ((c.tc : Thread Cert.HeadQueriesRefIdeal.nD Cert.HeadQueriesRefIdeal.τ).loc Cert.HeadQueriesRefIdeal.main_arg0)
      ∧ r.2.mem ((c.tc : Thread Cert.HeadQueriesRefIdeal.nD Cert.HeadQueriesRefIdeal.τ).loc Cert.HeadQueriesRefIdeal.main_arg1) = m ((c.tc : Thread Cert.HeadQueriesRefIdeal.nD Cert.HeadQueriesRefIdeal.τ).loc Cert.HeadQueriesRefIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_HeadKeys [hHeadKeys : Cert.HeadKeys.Facts] : Prop :=
  ∀ (m : (ℓ : Loc Cert.HeadKeys.nD Cert.HeadKeys.τ Cert.HeadKeys.sig) → Buf (Elt Bits) ℓ) (g : Dev Cert.HeadKeys.nD → PrngReg), Pre_HeadKeys m →
    θ_run (Cert.HeadKeys.defs (F := Bits)) (onTc (τ := Cert.HeadKeys.τ) (Cert.HeadKeys.main (F := Bits))) ⟨m, fun _ => 0, g⟩ (fun r => (∀ c : Dev Cert.HeadKeys.nD,
      r.2.mem ((c.tc : Thread Cert.HeadKeys.nD Cert.HeadKeys.τ).loc Cert.HeadKeys.main_arg0) = m ((c.tc : Thread Cert.HeadKeys.nD Cert.HeadKeys.τ).loc Cert.HeadKeys.main_arg0)
      ∧ r.2.mem ((c.tc : Thread Cert.HeadKeys.nD Cert.HeadKeys.τ).loc Cert.HeadKeys.main_arg1) = m ((c.tc : Thread Cert.HeadKeys.nD Cert.HeadKeys.τ).loc Cert.HeadKeys.main_arg1))
      ∧ r.2.sem = fun _ => 0)

def quiescent_HeadKeysIdeal [hHeadKeysIdeal : Cert.HeadKeysIdeal.Facts] : Prop :=
  ∀ (m : (ℓ : Loc Cert.HeadKeysIdeal.nD Cert.HeadKeysIdeal.τ Cert.HeadKeysIdeal.sig) → Buf (Elt Ideal) ℓ) (g : Dev Cert.HeadKeysIdeal.nD → PrngReg), Pre_HeadKeysIdeal m →
    θ_run (Cert.HeadKeysIdeal.defs (F := Ideal)) (onTc (τ := Cert.HeadKeysIdeal.τ) (Cert.HeadKeysIdeal.main (F := Ideal))) ⟨m, fun _ => 0, g⟩ (fun r => (∀ c : Dev Cert.HeadKeysIdeal.nD,
      r.2.mem ((c.tc : Thread Cert.HeadKeysIdeal.nD Cert.HeadKeysIdeal.τ).loc Cert.HeadKeysIdeal.main_arg0) = m ((c.tc : Thread Cert.HeadKeysIdeal.nD Cert.HeadKeysIdeal.τ).loc Cert.HeadKeysIdeal.main_arg0)
      ∧ r.2.mem ((c.tc : Thread Cert.HeadKeysIdeal.nD Cert.HeadKeysIdeal.τ).loc Cert.HeadKeysIdeal.main_arg1) = m ((c.tc : Thread Cert.HeadKeysIdeal.nD Cert.HeadKeysIdeal.τ).loc Cert.HeadKeysIdeal.main_arg1))
      ∧ r.2.sem = fun _ => 0)

def quiescent_HeadKeysRefIdeal [hHeadKeysRefIdeal : Cert.HeadKeysRefIdeal.Facts] : Prop :=
  ∀ (m : (ℓ : Loc Cert.HeadKeysRefIdeal.nD Cert.HeadKeysRefIdeal.τ Cert.HeadKeysRefIdeal.sig) → Buf (Elt Ideal) ℓ) (g : Dev Cert.HeadKeysRefIdeal.nD → PrngReg), Pre_HeadKeysRefIdeal m →
    θ_run (Cert.HeadKeysRefIdeal.defs (F := Ideal)) (onTc (τ := Cert.HeadKeysRefIdeal.τ) (Cert.HeadKeysRefIdeal.main (F := Ideal))) ⟨m, fun _ => 0, g⟩ (fun r => (∀ c : Dev Cert.HeadKeysRefIdeal.nD,
      r.2.mem ((c.tc : Thread Cert.HeadKeysRefIdeal.nD Cert.HeadKeysRefIdeal.τ).loc Cert.HeadKeysRefIdeal.main_arg0) = m ((c.tc : Thread Cert.HeadKeysRefIdeal.nD Cert.HeadKeysRefIdeal.τ).loc Cert.HeadKeysRefIdeal.main_arg0)
      ∧ r.2.mem ((c.tc : Thread Cert.HeadKeysRefIdeal.nD Cert.HeadKeysRefIdeal.τ).loc Cert.HeadKeysRefIdeal.main_arg1) = m ((c.tc : Thread Cert.HeadKeysRefIdeal.nD Cert.HeadKeysRefIdeal.τ).loc Cert.HeadKeysRefIdeal.main_arg1))
      ∧ r.2.sem = fun _ => 0)

def quiescent_HeadValues [hHeadValues : Cert.HeadValues.Facts] : Prop :=
  ∀ (m : (ℓ : Loc Cert.HeadValues.nD Cert.HeadValues.τ Cert.HeadValues.sig) → Buf (Elt Bits) ℓ) (g : Dev Cert.HeadValues.nD → PrngReg), Pre_HeadValues m →
    θ_run (Cert.HeadValues.defs (F := Bits)) (onTc (τ := Cert.HeadValues.τ) (Cert.HeadValues.main (F := Bits))) ⟨m, fun _ => 0, g⟩ (fun r => (∀ c : Dev Cert.HeadValues.nD,
      r.2.mem ((c.tc : Thread Cert.HeadValues.nD Cert.HeadValues.τ).loc Cert.HeadValues.main_arg0) = m ((c.tc : Thread Cert.HeadValues.nD Cert.HeadValues.τ).loc Cert.HeadValues.main_arg0))
      ∧ r.2.sem = fun _ => 0)

def quiescent_HeadValuesIdeal [hHeadValuesIdeal : Cert.HeadValuesIdeal.Facts] : Prop :=
  ∀ (m : (ℓ : Loc Cert.HeadValuesIdeal.nD Cert.HeadValuesIdeal.τ Cert.HeadValuesIdeal.sig) → Buf (Elt Ideal) ℓ) (g : Dev Cert.HeadValuesIdeal.nD → PrngReg), Pre_HeadValuesIdeal m →
    θ_run (Cert.HeadValuesIdeal.defs (F := Ideal)) (onTc (τ := Cert.HeadValuesIdeal.τ) (Cert.HeadValuesIdeal.main (F := Ideal))) ⟨m, fun _ => 0, g⟩ (fun r => (∀ c : Dev Cert.HeadValuesIdeal.nD,
      r.2.mem ((c.tc : Thread Cert.HeadValuesIdeal.nD Cert.HeadValuesIdeal.τ).loc Cert.HeadValuesIdeal.main_arg0) = m ((c.tc : Thread Cert.HeadValuesIdeal.nD Cert.HeadValuesIdeal.τ).loc Cert.HeadValuesIdeal.main_arg0))
      ∧ r.2.sem = fun _ => 0)

def quiescent_HeadValuesRefIdeal [hHeadValuesRefIdeal : Cert.HeadValuesRefIdeal.Facts] : Prop :=
  ∀ (m : (ℓ : Loc Cert.HeadValuesRefIdeal.nD Cert.HeadValuesRefIdeal.τ Cert.HeadValuesRefIdeal.sig) → Buf (Elt Ideal) ℓ) (g : Dev Cert.HeadValuesRefIdeal.nD → PrngReg), Pre_HeadValuesRefIdeal m →
    θ_run (Cert.HeadValuesRefIdeal.defs (F := Ideal)) (onTc (τ := Cert.HeadValuesRefIdeal.τ) (Cert.HeadValuesRefIdeal.main (F := Ideal))) ⟨m, fun _ => 0, g⟩ (fun r => (∀ c : Dev Cert.HeadValuesRefIdeal.nD,
      r.2.mem ((c.tc : Thread Cert.HeadValuesRefIdeal.nD Cert.HeadValuesRefIdeal.τ).loc Cert.HeadValuesRefIdeal.main_arg0) = m ((c.tc : Thread Cert.HeadValuesRefIdeal.nD Cert.HeadValuesRefIdeal.τ).loc Cert.HeadValuesRefIdeal.main_arg0))
      ∧ r.2.sem = fun _ => 0)

def preserves_Attn_AttnIdeal : Prop :=
  True

def algebraic_AttnIdeal_AttnRefIdeal_pre_finite_queries_and_keys [hAttnIdeal : Cert.AttnIdeal.Facts] [hAttnRefIdeal : Cert.AttnRefIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v20) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v28) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1))

def preserves_ConvMixer_ConvMixerIdeal : Prop :=
  True

def algebraic_ConvMixerIdeal_ConvMixerRefIdeal [hConvMixerIdeal : Cert.ConvMixerIdeal.Facts] [hConvMixerRefIdeal : Cert.ConvMixerRefIdeal.Facts] : Prop :=
  ∀ (m : (ℓ : Loc Cert.ConvMixerIdeal.nD Cert.ConvMixerIdeal.τ Cert.ConvMixerIdeal.sig) → Buf (Elt Ideal) ℓ) (g : Dev Cert.ConvMixerIdeal.nD → PrngReg)
    (m' : (ℓ : Loc Cert.ConvMixerRefIdeal.nD Cert.ConvMixerRefIdeal.τ Cert.ConvMixerRefIdeal.sig) → Buf (Elt Ideal) ℓ) (g' : Dev Cert.ConvMixerRefIdeal.nD → PrngReg), Pre_ConvMixerIdeal m →
    (∀ c : Dev Cert.ConvMixerIdeal.nD,
      m' ((c.tc : Thread Cert.ConvMixerRefIdeal.nD Cert.ConvMixerRefIdeal.τ).loc Cert.ConvMixerRefIdeal.main_arg0) = m ((c.tc : Thread Cert.ConvMixerIdeal.nD Cert.ConvMixerIdeal.τ).loc Cert.ConvMixerIdeal.main_arg0)
      ∧ m' ((c.tc : Thread Cert.ConvMixerRefIdeal.nD Cert.ConvMixerRefIdeal.τ).loc Cert.ConvMixerRefIdeal.main_arg1) = m ((c.tc : Thread Cert.ConvMixerIdeal.nD Cert.ConvMixerIdeal.τ).loc Cert.ConvMixerIdeal.main_arg1)) →
    ∃ (v0 : (c : Dev Cert.ConvMixerIdeal.nD) → Buf (Elt Ideal) ((c.tc : Thread Cert.ConvMixerIdeal.nD Cert.ConvMixerIdeal.τ).loc Cert.ConvMixerIdeal.main_v0)),
      θ_run (Cert.ConvMixerIdeal.defs (F := Ideal)) (onTc (τ := Cert.ConvMixerIdeal.τ) (Cert.ConvMixerIdeal.main (F := Ideal))) ⟨m, fun _ => 0, g⟩ (fun r => ∀ c : Dev Cert.ConvMixerIdeal.nD,
          r.2.mem ((c.tc : Thread Cert.ConvMixerIdeal.nD Cert.ConvMixerIdeal.τ).loc Cert.ConvMixerIdeal.main_v0) = v0 c
          ∧ r.2.mem ((c.tc : Thread Cert.ConvMixerIdeal.nD Cert.ConvMixerIdeal.τ).loc Cert.ConvMixerIdeal.main_arg0) = m ((c.tc : Thread Cert.ConvMixerIdeal.nD Cert.ConvMixerIdeal.τ).loc Cert.ConvMixerIdeal.main_arg0)
          ∧ r.2.mem ((c.tc : Thread Cert.ConvMixerIdeal.nD Cert.ConvMixerIdeal.τ).loc Cert.ConvMixerIdeal.main_arg1) = m ((c.tc : Thread Cert.ConvMixerIdeal.nD Cert.ConvMixerIdeal.τ).loc Cert.ConvMixerIdeal.main_arg1))
      ∧ θ_run (Cert.ConvMixerRefIdeal.defs (F := Ideal)) (onTc (τ := Cert.ConvMixerRefIdeal.τ) (Cert.ConvMixerRefIdeal.main (F := Ideal))) ⟨m', fun _ => 0, g'⟩ (fun r => ∀ c : Dev Cert.ConvMixerRefIdeal.nD,
          r.2.mem ((c.tc : Thread Cert.ConvMixerRefIdeal.nD Cert.ConvMixerRefIdeal.τ).loc Cert.ConvMixerRefIdeal.main_v30) = v0 c
          ∧ r.2.mem ((c.tc : Thread Cert.ConvMixerRefIdeal.nD Cert.ConvMixerRefIdeal.τ).loc Cert.ConvMixerRefIdeal.main_arg0) = m' ((c.tc : Thread Cert.ConvMixerRefIdeal.nD Cert.ConvMixerRefIdeal.τ).loc Cert.ConvMixerRefIdeal.main_arg0)
          ∧ r.2.mem ((c.tc : Thread Cert.ConvMixerRefIdeal.nD Cert.ConvMixerRefIdeal.τ).loc Cert.ConvMixerRefIdeal.main_arg1) = m' ((c.tc : Thread Cert.ConvMixerRefIdeal.nD Cert.ConvMixerRefIdeal.τ).loc Cert.ConvMixerRefIdeal.main_arg1))

def preserves_HeadQueries_HeadQueriesIdeal : Prop :=
  True

def algebraic_HeadQueriesIdeal_HeadQueriesRefIdeal [hHeadQueriesIdeal : Cert.HeadQueriesIdeal.Facts] [hHeadQueriesRefIdeal : Cert.HeadQueriesRefIdeal.Facts] : Prop :=
  ∀ (m : (ℓ : Loc Cert.HeadQueriesIdeal.nD Cert.HeadQueriesIdeal.τ Cert.HeadQueriesIdeal.sig) → Buf (Elt Ideal) ℓ) (g : Dev Cert.HeadQueriesIdeal.nD → PrngReg)
    (m' : (ℓ : Loc Cert.HeadQueriesRefIdeal.nD Cert.HeadQueriesRefIdeal.τ Cert.HeadQueriesRefIdeal.sig) → Buf (Elt Ideal) ℓ) (g' : Dev Cert.HeadQueriesRefIdeal.nD → PrngReg), Pre_HeadQueriesIdeal m →
    (∀ c : Dev Cert.HeadQueriesIdeal.nD,
      m' ((c.tc : Thread Cert.HeadQueriesRefIdeal.nD Cert.HeadQueriesRefIdeal.τ).loc Cert.HeadQueriesRefIdeal.main_arg0) = m ((c.tc : Thread Cert.HeadQueriesIdeal.nD Cert.HeadQueriesIdeal.τ).loc Cert.HeadQueriesIdeal.main_arg0)
      ∧ m' ((c.tc : Thread Cert.HeadQueriesRefIdeal.nD Cert.HeadQueriesRefIdeal.τ).loc Cert.HeadQueriesRefIdeal.main_arg1) = m ((c.tc : Thread Cert.HeadQueriesIdeal.nD Cert.HeadQueriesIdeal.τ).loc Cert.HeadQueriesIdeal.main_arg1)) →
    ∃ (v0 : (c : Dev Cert.HeadQueriesIdeal.nD) → Buf (Elt Ideal) ((c.tc : Thread Cert.HeadQueriesIdeal.nD Cert.HeadQueriesIdeal.τ).loc Cert.HeadQueriesIdeal.main_v28)),
      θ_run (Cert.HeadQueriesIdeal.defs (F := Ideal)) (onTc (τ := Cert.HeadQueriesIdeal.τ) (Cert.HeadQueriesIdeal.main (F := Ideal))) ⟨m, fun _ => 0, g⟩ (fun r => ∀ c : Dev Cert.HeadQueriesIdeal.nD,
          r.2.mem ((c.tc : Thread Cert.HeadQueriesIdeal.nD Cert.HeadQueriesIdeal.τ).loc Cert.HeadQueriesIdeal.main_v28) = v0 c
          ∧ r.2.mem ((c.tc : Thread Cert.HeadQueriesIdeal.nD Cert.HeadQueriesIdeal.τ).loc Cert.HeadQueriesIdeal.main_arg0) = m ((c.tc : Thread Cert.HeadQueriesIdeal.nD Cert.HeadQueriesIdeal.τ).loc Cert.HeadQueriesIdeal.main_arg0)
          ∧ r.2.mem ((c.tc : Thread Cert.HeadQueriesIdeal.nD Cert.HeadQueriesIdeal.τ).loc Cert.HeadQueriesIdeal.main_arg1) = m ((c.tc : Thread Cert.HeadQueriesIdeal.nD Cert.HeadQueriesIdeal.τ).loc Cert.HeadQueriesIdeal.main_arg1))
      ∧ θ_run (Cert.HeadQueriesRefIdeal.defs (F := Ideal)) (onTc (τ := Cert.HeadQueriesRefIdeal.τ) (Cert.HeadQueriesRefIdeal.main (F := Ideal))) ⟨m', fun _ => 0, g'⟩ (fun r => ∀ c : Dev Cert.HeadQueriesRefIdeal.nD,
          r.2.mem ((c.tc : Thread Cert.HeadQueriesRefIdeal.nD Cert.HeadQueriesRefIdeal.τ).loc Cert.HeadQueriesRefIdeal.main_v60) = v0 c
          ∧ r.2.mem ((c.tc : Thread Cert.HeadQueriesRefIdeal.nD Cert.HeadQueriesRefIdeal.τ).loc Cert.HeadQueriesRefIdeal.main_arg0) = m' ((c.tc : Thread Cert.HeadQueriesRefIdeal.nD Cert.HeadQueriesRefIdeal.τ).loc Cert.HeadQueriesRefIdeal.main_arg0)
          ∧ r.2.mem ((c.tc : Thread Cert.HeadQueriesRefIdeal.nD Cert.HeadQueriesRefIdeal.τ).loc Cert.HeadQueriesRefIdeal.main_arg1) = m' ((c.tc : Thread Cert.HeadQueriesRefIdeal.nD Cert.HeadQueriesRefIdeal.τ).loc Cert.HeadQueriesRefIdeal.main_arg1))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_HeadKeys_HeadKeysIdeal : Prop :=
  True

def algebraic_HeadKeysIdeal_HeadKeysRefIdeal [hHeadKeysIdeal : Cert.HeadKeysIdeal.Facts] [hHeadKeysRefIdeal : Cert.HeadKeysRefIdeal.Facts] : Prop :=
  ∀ (m : (ℓ : Loc Cert.HeadKeysIdeal.nD Cert.HeadKeysIdeal.τ Cert.HeadKeysIdeal.sig) → Buf (Elt Ideal) ℓ) (g : Dev Cert.HeadKeysIdeal.nD → PrngReg)
    (m' : (ℓ : Loc Cert.HeadKeysRefIdeal.nD Cert.HeadKeysRefIdeal.τ Cert.HeadKeysRefIdeal.sig) → Buf (Elt Ideal) ℓ) (g' : Dev Cert.HeadKeysRefIdeal.nD → PrngReg), Pre_HeadKeysIdeal m →
    (∀ c : Dev Cert.HeadKeysIdeal.nD,
      m' ((c.tc : Thread Cert.HeadKeysRefIdeal.nD Cert.HeadKeysRefIdeal.τ).loc Cert.HeadKeysRefIdeal.main_arg0) = m ((c.tc : Thread Cert.HeadKeysIdeal.nD Cert.HeadKeysIdeal.τ).loc Cert.HeadKeysIdeal.main_arg0)
      ∧ m' ((c.tc : Thread Cert.HeadKeysRefIdeal.nD Cert.HeadKeysRefIdeal.τ).loc Cert.HeadKeysRefIdeal.main_arg1) = m ((c.tc : Thread Cert.HeadKeysIdeal.nD Cert.HeadKeysIdeal.τ).loc Cert.HeadKeysIdeal.main_arg1)) →
    ∃ (v0 : (c : Dev Cert.HeadKeysIdeal.nD) → Buf (Elt Ideal) ((c.tc : Thread Cert.HeadKeysIdeal.nD Cert.HeadKeysIdeal.τ).loc Cert.HeadKeysIdeal.main_v28)),
      θ_run (Cert.HeadKeysIdeal.defs (F := Ideal)) (onTc (τ := Cert.HeadKeysIdeal.τ) (Cert.HeadKeysIdeal.main (F := Ideal))) ⟨m, fun _ => 0, g⟩ (fun r => ∀ c : Dev Cert.HeadKeysIdeal.nD,
          r.2.mem ((c.tc : Thread Cert.HeadKeysIdeal.nD Cert.HeadKeysIdeal.τ).loc Cert.HeadKeysIdeal.main_v28) = v0 c
          ∧ r.2.mem ((c.tc : Thread Cert.HeadKeysIdeal.nD Cert.HeadKeysIdeal.τ).loc Cert.HeadKeysIdeal.main_arg0) = m ((c.tc : Thread Cert.HeadKeysIdeal.nD Cert.HeadKeysIdeal.τ).loc Cert.HeadKeysIdeal.main_arg0)
          ∧ r.2.mem ((c.tc : Thread Cert.HeadKeysIdeal.nD Cert.HeadKeysIdeal.τ).loc Cert.HeadKeysIdeal.main_arg1) = m ((c.tc : Thread Cert.HeadKeysIdeal.nD Cert.HeadKeysIdeal.τ).loc Cert.HeadKeysIdeal.main_arg1))
      ∧ θ_run (Cert.HeadKeysRefIdeal.defs (F := Ideal)) (onTc (τ := Cert.HeadKeysRefIdeal.τ) (Cert.HeadKeysRefIdeal.main (F := Ideal))) ⟨m', fun _ => 0, g'⟩ (fun r => ∀ c : Dev Cert.HeadKeysRefIdeal.nD,
          r.2.mem ((c.tc : Thread Cert.HeadKeysRefIdeal.nD Cert.HeadKeysRefIdeal.τ).loc Cert.HeadKeysRefIdeal.main_v58) = v0 c
          ∧ r.2.mem ((c.tc : Thread Cert.HeadKeysRefIdeal.nD Cert.HeadKeysRefIdeal.τ).loc Cert.HeadKeysRefIdeal.main_arg0) = m' ((c.tc : Thread Cert.HeadKeysRefIdeal.nD Cert.HeadKeysRefIdeal.τ).loc Cert.HeadKeysRefIdeal.main_arg0)
          ∧ r.2.mem ((c.tc : Thread Cert.HeadKeysRefIdeal.nD Cert.HeadKeysRefIdeal.τ).loc Cert.HeadKeysRefIdeal.main_arg1) = m' ((c.tc : Thread Cert.HeadKeysRefIdeal.nD Cert.HeadKeysRefIdeal.τ).loc Cert.HeadKeysRefIdeal.main_arg1))

def preserves_HeadValues_HeadValuesIdeal : Prop :=
  True

def algebraic_HeadValuesIdeal_HeadValuesRefIdeal [hHeadValuesIdeal : Cert.HeadValuesIdeal.Facts] [hHeadValuesRefIdeal : Cert.HeadValuesRefIdeal.Facts] : Prop :=
  ∀ (m : (ℓ : Loc Cert.HeadValuesIdeal.nD Cert.HeadValuesIdeal.τ Cert.HeadValuesIdeal.sig) → Buf (Elt Ideal) ℓ) (g : Dev Cert.HeadValuesIdeal.nD → PrngReg)
    (m' : (ℓ : Loc Cert.HeadValuesRefIdeal.nD Cert.HeadValuesRefIdeal.τ Cert.HeadValuesRefIdeal.sig) → Buf (Elt Ideal) ℓ) (g' : Dev Cert.HeadValuesRefIdeal.nD → PrngReg), Pre_HeadValuesIdeal m →
    (∀ c : Dev Cert.HeadValuesIdeal.nD,
      m' ((c.tc : Thread Cert.HeadValuesRefIdeal.nD Cert.HeadValuesRefIdeal.τ).loc Cert.HeadValuesRefIdeal.main_arg0) = m ((c.tc : Thread Cert.HeadValuesIdeal.nD Cert.HeadValuesIdeal.τ).loc Cert.HeadValuesIdeal.main_arg0)) →
    ∃ (v0 : (c : Dev Cert.HeadValuesIdeal.nD) → Buf (Elt Ideal) ((c.tc : Thread Cert.HeadValuesIdeal.nD Cert.HeadValuesIdeal.τ).loc Cert.HeadValuesIdeal.main_v0)),
      θ_run (Cert.HeadValuesIdeal.defs (F := Ideal)) (onTc (τ := Cert.HeadValuesIdeal.τ) (Cert.HeadValuesIdeal.main (F := Ideal))) ⟨m, fun _ => 0, g⟩ (fun r => ∀ c : Dev Cert.HeadValuesIdeal.nD,
          r.2.mem ((c.tc : Thread Cert.HeadValuesIdeal.nD Cert.HeadValuesIdeal.τ).loc Cert.HeadValuesIdeal.main_v0) = v0 c
          ∧ r.2.mem ((c.tc : Thread Cert.HeadValuesIdeal.nD Cert.HeadValuesIdeal.τ).loc Cert.HeadValuesIdeal.main_arg0) = m ((c.tc : Thread Cert.HeadValuesIdeal.nD Cert.HeadValuesIdeal.τ).loc Cert.HeadValuesIdeal.main_arg0))
      ∧ θ_run (Cert.HeadValuesRefIdeal.defs (F := Ideal)) (onTc (τ := Cert.HeadValuesRefIdeal.τ) (Cert.HeadValuesRefIdeal.main (F := Ideal))) ⟨m', fun _ => 0, g'⟩ (fun r => ∀ c : Dev Cert.HeadValuesRefIdeal.nD,
          r.2.mem ((c.tc : Thread Cert.HeadValuesRefIdeal.nD Cert.HeadValuesRefIdeal.τ).loc Cert.HeadValuesRefIdeal.main_v4) = v0 c
          ∧ r.2.mem ((c.tc : Thread Cert.HeadValuesRefIdeal.nD Cert.HeadValuesRefIdeal.τ).loc Cert.HeadValuesRefIdeal.main_arg0) = m' ((c.tc : Thread Cert.HeadValuesRefIdeal.nD Cert.HeadValuesRefIdeal.τ).loc Cert.HeadValuesRefIdeal.main_arg0))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hFfnAct : Cert.FfnAct.Facts) (hFfnActIdeal : Cert.FfnActIdeal.Facts) (hFfnActRefIdeal : Cert.FfnActRefIdeal.Facts) (hConvMixer : Cert.ConvMixer.Facts) (hConvMixerIdeal : Cert.ConvMixerIdeal.Facts) (hConvMixerRefIdeal : Cert.ConvMixerRefIdeal.Facts) (hHeadQueries : Cert.HeadQueries.Facts) (hHeadQueriesIdeal : Cert.HeadQueriesIdeal.Facts) (hHeadQueriesRefIdeal : Cert.HeadQueriesRefIdeal.Facts) (hModulation : Cert.Modulation.Facts) (hModulationIdeal : Cert.ModulationIdeal.Facts) (hModulationRefIdeal : Cert.ModulationRefIdeal.Facts) (hHeadKeys : Cert.HeadKeys.Facts) (hHeadKeysIdeal : Cert.HeadKeysIdeal.Facts) (hHeadKeysRefIdeal : Cert.HeadKeysRefIdeal.Facts) (hHeadValues : Cert.HeadValues.Facts) (hHeadValuesIdeal : Cert.HeadValuesIdeal.Facts) (hHeadValuesRefIdeal : Cert.HeadValuesRefIdeal.Facts) (hPre_finite_queries_and_keys : Cert.Pre_finite_queries_and_keys.Facts),
    quiescent_Attn (hAttn := hAttn)
    ∧ quiescent_AttnIdeal (hAttnIdeal := hAttnIdeal)
    ∧ quiescent_AttnIdeal_pre_finite_queries_and_keys (hAttnIdeal := hAttnIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_ConvMixer (hConvMixer := hConvMixer)
    ∧ quiescent_ConvMixerIdeal (hConvMixerIdeal := hConvMixerIdeal)
    ∧ quiescent_ConvMixerRefIdeal (hConvMixerRefIdeal := hConvMixerRefIdeal)
    ∧ quiescent_HeadQueries (hHeadQueries := hHeadQueries)
    ∧ quiescent_HeadQueriesIdeal (hHeadQueriesIdeal := hHeadQueriesIdeal)
    ∧ quiescent_HeadQueriesRefIdeal (hHeadQueriesRefIdeal := hHeadQueriesRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_HeadKeys (hHeadKeys := hHeadKeys)
    ∧ quiescent_HeadKeysIdeal (hHeadKeysIdeal := hHeadKeysIdeal)
    ∧ quiescent_HeadKeysRefIdeal (hHeadKeysRefIdeal := hHeadKeysRefIdeal)
    ∧ quiescent_HeadValues (hHeadValues := hHeadValues)
    ∧ quiescent_HeadValuesIdeal (hHeadValuesIdeal := hHeadValuesIdeal)
    ∧ quiescent_HeadValuesRefIdeal (hHeadValuesRefIdeal := hHeadValuesRefIdeal)
    ∧ preserves_Attn_AttnIdeal
    ∧ algebraic_AttnIdeal_AttnRefIdeal_pre_finite_queries_and_keys (hAttnIdeal := hAttnIdeal) (hAttnRefIdeal := hAttnRefIdeal) (hPre_finite_queries_and_keys := hPre_finite_queries_and_keys)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnAct_FfnActIdeal
    ∧ algebraic_FfnActIdeal_FfnActRefIdeal (hFfnActIdeal := hFfnActIdeal) (hFfnActRefIdeal := hFfnActRefIdeal)
    ∧ preserves_ConvMixer_ConvMixerIdeal
    ∧ algebraic_ConvMixerIdeal_ConvMixerRefIdeal (hConvMixerIdeal := hConvMixerIdeal) (hConvMixerRefIdeal := hConvMixerRefIdeal)
    ∧ preserves_HeadQueries_HeadQueriesIdeal
    ∧ algebraic_HeadQueriesIdeal_HeadQueriesRefIdeal (hHeadQueriesIdeal := hHeadQueriesIdeal) (hHeadQueriesRefIdeal := hHeadQueriesRefIdeal)
    ∧ preserves_Modulation_ModulationIdeal
    ∧ algebraic_ModulationIdeal_ModulationRefIdeal (hModulationIdeal := hModulationIdeal) (hModulationRefIdeal := hModulationRefIdeal)
    ∧ preserves_HeadKeys_HeadKeysIdeal
    ∧ algebraic_HeadKeysIdeal_HeadKeysRefIdeal (hHeadKeysIdeal := hHeadKeysIdeal) (hHeadKeysRefIdeal := hHeadKeysRefIdeal)
    ∧ preserves_HeadValues_HeadValuesIdeal
    ∧ algebraic_HeadValuesIdeal_HeadValuesRefIdeal (hHeadValuesIdeal := hHeadValuesIdeal) (hHeadValuesRefIdeal := hHeadValuesRefIdeal)
-- ==== Pre_finite_queries_and_keys.lean ====
abbrev S8x128x16384 : Shape := ⟨3, ![8, 128, 16384]⟩
abbrev S2x16384x128 : Shape := ⟨3, ![2, 16384, 128]⟩
abbrev S2x256x128 : Shape := ⟨3, ![2, 256, 128]⟩
abbrev S2x128x16384 : Shape := ⟨3, ![2, 128, 16384]⟩
abbrev S2x128x256 : Shape := ⟨3, ![2, 128, 256]⟩
abbrev S_ : Shape := ⟨0, ![]⟩

class Facts : Prop where
  bitsLt_bf16_f32 : FTy.bits .bf16 < FTy.bits .f32
  bcast_S_S8x128x16384 : S_.BroadcastsInDim S8x128x16384 (![] : Fin 0 → Fin S8x128x16384.rank)
  bcast_S_S2x16384x128 : S_.BroadcastsInDim S2x16384x128 (![] : Fin 0 → Fin S2x16384x128.rank)
  bcast_S_S2x256x128 : S_.BroadcastsInDim S2x256x128 (![] : Fin 0 → Fin S2x256x128.rank)

variable [Facts]

def fn {F : FTy → Type} [FloatOps F] (main_arg0 : FVec F S8x128x16384 .bf16) (main_arg1 : FVec F S2x16384x128 .bf16) (main_arg2 : FVec F S2x256x128 .bf16) (main_arg3 : FVec F S2x128x16384 .bf16) (main_arg4 : FVec F S2x128x256 .bf16) : IVec S8x128x16384 1 × IVec S2x16384x128 1 × IVec S2x256x128 1 :=
  let main_v0 : FVec F S8x128x16384 .f32 := (extf .f32 · bitsLt_bf16_f32) main_arg0
  let main_v1 : FVec F S8x128x16384 .f32 := Host.absf main_v0
  let main_cst : FVec F S_ .f32 := constant S_ .f32 0x7F800000#32
  let main_v2 : FVec F S8x128x16384 .f32 := broadcastInDim S8x128x16384 ![] bcast_S_S8x128x16384 main_cst
  let main_v3 : IVec S8x128x16384 1 := cmpf .olt main_v1 main_v2
  let main_v4 : FVec F S2x16384x128 .f32 := (extf .f32 · bitsLt_bf16_f32) main_arg1
  let main_v5 : FVec F S2x16384x128 .f32 := Host.absf main_v4
  let main_cst_0 : FVec F S_ .f32 := constant S_ .f32 0x7F800000#32
  let main_v6 : FVec F S2x16384x128 .f32 := broadcastInDim S2x16384x128 ![] bcast_S_S2x16384x128 main_cst_0
  let main_v7 : IVec S2x16384x128 1 := cmpf .olt main_v5 main_v6
  let main_v8 : FVec F S2x256x128 .f32 := (extf .f32 · bitsLt_bf16_f32) main_arg2
  let main_v9 : FVec F S2x256x128 .f32 := Host.absf main_v8
  let main_cst_1 : FVec F S_ .f32 := constant S_ .f32 0x7F800000#32
  let main_v10 : FVec F S2x256x128 .f32 := broadcastInDim S2x256x128 ![] bcast_S_S2x256x128 main_cst_1
  let main_v11 : IVec S2x256x128 1 := cmpf .olt main_v9 main_v10
  (main_v3, main_v7, main_v11)
-- ==== Attn.lean ====
abbrev S8x128x16384 : Shape := ⟨3, ![8, 128, 16384]⟩
abbrev S2x16384x128 : Shape := ⟨3, ![2, 16384, 128]⟩
abbrev S2x256x128 : Shape := ⟨3, ![2, 256, 128]⟩
abbrev S2x128x16384 : Shape := ⟨3, ![2, 128, 16384]⟩
abbrev S2x128x256 : Shape := ⟨3, ![2, 128, 256]⟩
abbrev S2x16640x128 : Shape := ⟨3, ![2, 16640, 128]⟩
abbrev S2x128x16640 : Shape := ⟨3, ![2, 128, 16640]⟩
abbrev S16384x1024 : Shape := ⟨2, ![16384, 1024]⟩
abbrev S4x128x512 : Shape := ⟨3, ![4, 128, 512]⟩
abbrev S1x16640x128 : Shape := ⟨3, ![1, 16640, 128]⟩
abbrev S1x128x16640 : Shape := ⟨3, ![1, 128, 16640]⟩
abbrev S512x512 : Shape := ⟨2, ![512, 512]⟩
abbrev S1x128x512 : Shape := ⟨3, ![1, 128, 512]⟩
abbrev S128x512 : Shape := ⟨2, ![128, 512]⟩
abbrev S1x512 : Shape := ⟨2, ![1, 512]⟩
abbrev S1x512x128 : Shape := ⟨3, ![1, 512, 128]⟩
abbrev S512x128 : Shape := ⟨2, ![512, 128]⟩
abbrev S512 : Shape := ⟨1, ![512]⟩
abbrev S1x256x128 : Shape := ⟨3, ![1, 256, 128]⟩
abbrev S256x128 : Shape := ⟨2, ![256, 128]⟩
abbrev S256x512 : Shape := ⟨2, ![256, 512]⟩
abbrev S1x128x256 : Shape := ⟨3, ![1, 128, 256]⟩
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x16384, .bf16⟩
  | .hbm, ⟨1, _⟩ => ⟨S2x16384x128, .bf16⟩
  | .hbm, ⟨2, _⟩ => ⟨S2x256x128, .bf16⟩
  | .hbm, ⟨3, _⟩ => ⟨S2x128x16384, .bf16⟩
  | .hbm, ⟨4, _⟩ => ⟨S2x128x256, .bf16⟩
  | .hbm, ⟨5, _⟩ => ⟨S2x16640x128, .bf16⟩
  | .hbm, ⟨6, _⟩ => ⟨S2x128x16640, .bf16⟩
  | .hbm, ⟨7, _⟩ => ⟨S16384x1024, .bf16⟩
  | .local _ .vmem, ⟨0, _⟩ => ⟨S4x128x512, .bf16⟩
  | .local _ .vmem, ⟨1, _⟩ => ⟨S4x128x512, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x128x16640, .bf16⟩
  | .local _ .vmem, ⟨5, _⟩ => ⟨S1x128x16640, .bf16⟩
  | .local _ .vmem, ⟨6, _⟩ => ⟨S512x512, .bf16⟩
  | .local _ .vmem, ⟨7, _⟩ => ⟨S512x512, .bf16⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v144 : BitVec 32 := Scalar.muli arg6 c512_i32
  v144
def k0_off1 (k0_t1 : Fin k0_t1_loop.trips) : Fin 3 → Nat :=
  let c0_80 : Index := 0#32
  let c0_i32 : BitVec 32 := 0#32
  let c1_i32 : BitVec 32 := 1#32
  let arg6 : BitVec 32 := Scf.iv c0_i32 c1_i32 k0_t1
  let c512_i32 : BitVec 32 := 512#32
  let v144 : BitVec 32 := Scalar.muli arg6 c512_i32
  let v145 : BitVec 32 := v144
  let v146 : Index := Scalar.indexCast v145
  let c0_81 : Index := 0#32
  ![0, v146.toNat, 0]
def k0_off2 (k0_t1 : Fin k0_t1_loop.trips) : Fin 3 → Nat :=
  let c0_85 : Index := 0#32
  let c0_86 : Index := 0#32
  let c0_i32 : BitVec 32 := 0#32
  let c1_i32 : BitVec 32 := 1#32
  let arg6 : BitVec 32 := Scf.iv c0_i32 c1_i32 k0_t1
  let c512_i32 : BitVec 32 := 512#32
  let v144 : BitVec 32 := Scalar.muli arg6 c512_i32
  let v145 : BitVec 32 := v144
  let v162 : Index := Scalar.indexCast v145
  ![0, 0, v162.toNat]
@[reducible] def k0_t2_loop : Scf.Loop 32 :=
  let c0_i32_22 : BitVec 32 := 0#32
  let c32_i32_23 : BitVec 32 := 32#32
  let v41 : BitVec 32 := Scalar.addi c0_i32_22 c32_i32_23
  let c1_i32_24 : BitVec 32 := 1#32
  ⟨c0_i32_22, v41, c1_i32_24⟩
def k0_mult2 (k0_t2 : Fin k0_t2_loop.trips) : BitVec 32 :=
  let c0_i32_22 : BitVec 32 := 0#32
  let c1_i32_24 : BitVec 32 := 1#32
  let arg6 : BitVec 32 := Scf.iv c0_i32_22 c1_i32_24 k0_t2
  let c512_i32 : BitVec 32 := 512#32
  let v144 : BitVec 32 := Scalar.muli arg6 c512_i32
  v144
def k0_off3 (k0_t2 : Fin k0_t2_loop.trips) : Fin 3 → Nat :=
  let c0_80 : Index := 0#32
  let c0_i32_22 : BitVec 32 := 0#32
  let c1_i32_24 : BitVec 32 := 1#32
  let arg6 : BitVec 32 := Scf.iv c0_i32_22 c1_i32_24 k0_t2
  let c512_i32 : BitVec 32 := 512#32
  let v144 : BitVec 32 := Scalar.muli arg6 c512_i32
  let v145 : BitVec 32 := v144
  let v146 : Index := Scalar.indexCast v145
  let c0_81 : Index := 0#32
  ![0, v146.toNat, 0]
def k0_off4 (k0_t2 : Fin k0_t2_loop.trips) : Fin 3 → Nat :=
  let c0_85 : Index := 0#32
  let c0_86 : Index := 0#32
  let c0_i32_22 : BitVec 32 := 0#32
  let c1_i32_24 : BitVec 32 := 1#32
  let arg6 : BitVec 32 := Scf.iv c0_i32_22 c1_i32_24 k0_t2
  let c512_i32 : BitVec 32 := 512#32
  let v144 : BitVec 32 := Scalar.muli arg6 c512_i32
  let v145 : BitVec 32 := v144
  let v162 : Index := Scalar.indexCast v145
  ![0, 0, v162.toNat]
@[reducible] def k0_t3_loop : Scf.Loop 32 :=
  let c0_i32_43 : BitVec 32 := 0#32
  let c32_i32_44 : BitVec 32 := 32#32
  let v77 : BitVec 32 := Scalar.addi c0_i32_43 c32_i32_44
  let c1_i32_45 : BitVec 32 := 1#32
  ⟨c0_i32_43, v77, c1_i32_45⟩
def k0_mult3 (k0_t3 : Fin k0_t3_loop.trips) : BitVec 32 :=
  let c0_i32_43 : BitVec 32 := 0#32
  let c1_i32_45 : BitVec 32 := 1#32
  let arg6 : BitVec 32 := Scf.iv c0_i32_43 c1_i32_45 k0_t3
  let c512_i32 : BitVec 32 := 512#32
  let v144 : BitVec 32 := Scalar.muli arg6 c512_i32
  v144
def k0_off5 (k0_t3 : Fin k0_t3_loop.trips) : Fin 3 → Nat :=
  let c0_80 : Index := 0#32
  let c0_i32_43 : BitVec 32 := 0#32
  let c1_i32_45 : BitVec 32 := 1#32
  let arg6 : BitVec 32 := Scf.iv c0_i32_43 c1_i32_45 k0_t3
  let c512_i32 : BitVec 32 := 512#32
  let v144 : BitVec 32 := Scalar.muli arg6 c512_i32
  let v145 : BitVec 32 := v144
  let v146 : Index := Scalar.indexCast v145
  let c0_81 : Index := 0#32
  ![0, v146.toNat, 0]
def k0_off6 (k0_t3 : Fin k0_t3_loop.trips) : Fin 3 → Nat :=
  let c0_85 : Index := 0#32
  let c0_86 : Index := 0#32
  let c0_i32_43 : BitVec 32 := 0#32
  let c1_i32_45 : BitVec 32 := 1#32
  let arg6 : BitVec 32 := Scf.iv c0_i32_43 c1_i32_45 k0_t3
  let c512_i32 : BitVec 32 := 512#32
  let v144 : BitVec 32 := Scalar.muli arg6 c512_i32
  let v145 : BitVec 32 := v144
  let v162 : Index := Scalar.indexCast v145
  ![0, 0, v162.toNat]
@[reducible] def k0_t4_loop : Scf.Loop 32 :=
  let c0_i32_64 : BitVec 32 := 0#32
  let c32_i32_65 : BitVec 32 := 32#32
  let v113 : BitVec 32 := Scalar.addi c0_i32_64 c32_i32_65
  let c1_i32_66 : BitVec 32 := 1#32
  ⟨c0_i32_64, v113, c1_i32_66⟩
def k0_mult4 (k0_t4 : Fin k0_t4_loop.trips) : BitVec 32 :=
  let c0_i32_64 : BitVec 32 := 0#32
  let c1_i32_66 : BitVec 32 := 1#32
  let arg6 : BitVec 32 := Scf.iv c0_i32_64 c1_i32_66 k0_t4
  let c512_i32 : BitVec 32 := 512#32
  let v144 : BitVec 32 := Scalar.muli arg6 c512_i32
  v144
def k0_off7 (k0_t4 : Fin k0_t4_loop.trips) : Fin 3 → Nat :=
  let c0_80 : Index := 0#32
  let c0_i32_64 : BitVec 32 := 0#32
  let c1_i32_66 : BitVec 32 := 1#32
  let arg6 : BitVec 32 := Scf.iv c0_i32_64 c1_i32_66 k0_t4
  let c512_i32 : BitVec 32 := 512#32
  let v144 : BitVec 32 := Scalar.muli arg6 c512_i32
  let v145 : BitVec 32 := v144
  let v146 : Index := Scalar.indexCast v145
  let c0_81 : Index := 0#32
  ![0, v146.toNat, 0]
def k0_off8 (k0_t4 : Fin k0_t4_loop.trips) : Fin 3 → Nat :=
  let c0_85 : Index := 0#32
  let c0_86 : Index := 0#32
  let c0_i32_64 : BitVec 32 := 0#32
  let c1_i32_66 : BitVec 32 := 1#32
  let arg6 : BitVec 32 := Scf.iv c0_i32_64 c1_i32_66 k0_t4
  let c512_i32 : BitVec 32 := 512#32
  let v144 : BitVec 32 := Scalar.muli arg6 c512_i32
  let v145 : BitVec 32 := v144
  let v162 : Index := Scalar.indexCast v145
  ![0, 0, v162.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S8x128x16384 : Shape := ⟨3, ![8, 128, 16384]⟩
abbrev S2x16384x128 : Shape := ⟨3, ![2, 16384, 128]⟩
abbrev S2x256x128 : Shape := ⟨3, ![2, 256, 128]⟩
abbrev S2x128x16384 : Shape := ⟨3, ![2, 128, 16384]⟩
abbrev S2x128x256 : Shape := ⟨3, ![2, 128, 256]⟩
abbrev S16384x8x128 : Shape := ⟨3, ![16384, 8, 128]⟩
abbrev S1x16384x8x128 : Shape := ⟨4, ![1, 16384, 8, 128]⟩
abbrev S16384x2x128 : Shape := ⟨3, ![16384, 2, 128]⟩
abbrev S1x16384x2x128 : Shape := ⟨4, ![1, 16384, 2, 128]⟩
abbrev S256x2x128 : Shape := ⟨3, ![256, 2, 128]⟩
abbrev S1x256x2x128 : Shape := ⟨4, ![1, 256, 2, 128]⟩
abbrev S1x16640x2x128 : Shape := ⟨4, ![1, 16640, 2, 128]⟩
abbrev S1x16384x2x4x128 : Shape := ⟨5, ![1, 16384, 2, 4, 128]⟩
abbrev S1x2x16640x16384x4 : Shape := ⟨5, ![1, 2, 16640, 16384, 4]⟩
abbrev S1x2x4x16384x16640 : Shape := ⟨5, ![1, 2, 4, 16384, 16640]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x128x4x16384 : Shape := ⟨5, ![1, 2, 128, 4, 16384]⟩
abbrev S1x16384x1024 : Shape := ⟨3, ![1, 16384, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S2x16384x128, .bf16⟩
  | .hbm, ⟨2, _⟩ => ⟨S2x256x128, .bf16⟩
  | .hbm, ⟨3, _⟩ => ⟨S2x128x16384, .bf16⟩
  | .hbm, ⟨4, _⟩ => ⟨S2x128x256, .bf16⟩
  | .hbm, ⟨5, _⟩ => ⟨S8x128x16384, .f32⟩
  | .hbm, ⟨6, _⟩ => ⟨S16384x8x128, .f32⟩
  | .hbm, ⟨7, _⟩ => ⟨S1x16384x8x128, .f32⟩
  | .hbm, ⟨8, _⟩ => ⟨S2x16384x128, .f32⟩
  | .hbm, ⟨9, _⟩ => ⟨S16384x2x128, .f32⟩
  | .hbm, ⟨10, _⟩ => ⟨S1x16384x2x128, .f32⟩
  | .hbm, ⟨11, _⟩ => ⟨S2x256x128, .f32⟩
  | .hbm, ⟨12, _⟩ => ⟨S256x2x128, .f32⟩
  | .hbm, ⟨13, _⟩ => ⟨S1x256x2x128, .f32⟩
  | .hbm, ⟨14, _⟩ => ⟨S2x128x16384, .f32⟩
  | .hbm, ⟨15, _⟩ => ⟨S16384x2x128, .f32⟩
  | .hbm, ⟨16, _⟩ => ⟨S1x16384x2x128, .f32⟩
  | .hbm, ⟨17, _⟩ => ⟨S2x128x256, .f32⟩
  | .hbm, ⟨18, _⟩ => ⟨S256x2x128, .f32⟩
  | .hbm, ⟨19, _⟩ => ⟨S1x256x2x128, .f32⟩
  | .hbm, ⟨20, _⟩ => ⟨S1x16640x2x128, .f32⟩
  | .hbm, ⟨21, _⟩ => ⟨S1x16640x2x128, .f32⟩
  | .hbm, ⟨22, _⟩ => ⟨S1x16384x2x4x128, .f32⟩
  | .hbm, ⟨23, _⟩ => ⟨S1x2x16640x16384x4, .f32⟩
  | .hbm, ⟨24, _⟩ => ⟨S1x2x4x16384x16640, .f32⟩
  | .hbm, ⟨25, _⟩ => ⟨S_, .f32⟩
  | .hbm, ⟨26, _⟩ => ⟨S1x2x4x16384, .f32⟩
  | .hbm, ⟨27, _⟩ => ⟨S_, .f32⟩
  | .hbm, ⟨28, _⟩ => ⟨S1x2x4x16384, .f32⟩
  | .hbm, ⟨29, _⟩ => ⟨S1x2x4x16384, .f32⟩
  | .hbm, ⟨30, _⟩ => ⟨S1x2x4x16384x1, .f32⟩
  | .hbm, ⟨31, _⟩ => ⟨S1x2x4x16384x16640, .f32⟩
  | .hbm, ⟨32, _⟩ => ⟨S1x2x4x16384x16640, .f32⟩
  | .hbm, ⟨33, _⟩ => ⟨S1x2x4x16384x16640, .f32⟩
  | .hbm, ⟨34, _⟩ => ⟨S_, .f32⟩
  | .hbm, ⟨35, _⟩ => ⟨S1x2x4x16384, .f32⟩
  | .hbm, ⟨36, _⟩ => ⟨S1x2x4x16384x1, .f32⟩
  | .hbm, ⟨37, _⟩ => ⟨S1x2x4x16384x16640, .f32⟩
  | .hbm, ⟨38, _⟩ => ⟨S1x2x4x16384x16640, .f32⟩
  | .hbm, ⟨39, _⟩ => ⟨S1x2x128x4x16384, .f32⟩
  | .hbm, ⟨40, _⟩ => ⟨S1x16384x2x4x128, .f32⟩
  | .hbm, ⟨41, _⟩ => ⟨S1x16384x1024, .f32⟩
  | .hbm, ⟨42, _⟩ => ⟨S16384x1024, .f32⟩
  | .hbm, ⟨43, _⟩ => ⟨S16384x1024, .bf16⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S1x2048 : Shape := ⟨2, ![1, 2048]⟩
abbrev S2048x5120 : Shape := ⟨2, ![2048, 5120]⟩
abbrev S2048x8192 : Shape := ⟨2, ![2048, 8192]⟩
abbrev S8192 : Shape := ⟨1, ![8192]⟩
abbrev S2048x13312 : Shape := ⟨2, ![2048, 13312]⟩
abbrev S_ : Shape := ⟨0, ![]⟩
abbrev S5120 : Shape := ⟨1, ![5120]⟩
abbrev S13312 : Shape := ⟨1, ![13312]⟩
abbrev S1x13312 : Shape := ⟨2, ![1, 13312]⟩
abbrev S16384x13312 : Shape := ⟨2, ![16384, 13312]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x5120, .f32⟩
  | .hbm, ⟨5, _⟩ => ⟨S2048x8192, .f32⟩
  | .hbm, ⟨6, _⟩ => ⟨S8192, .f32⟩
  | .hbm, ⟨7, _⟩ => ⟨S2048x13312, .f32⟩
  | .hbm, ⟨8, _⟩ => ⟨S2048x13312, .bf16⟩
  | .hbm, ⟨9, _⟩ => ⟨S_, .f32⟩
  | .hbm, ⟨10, _⟩ => ⟨S5120, .f32⟩
  | .hbm, ⟨11, _⟩ => ⟨S13312, .f32⟩
  | .hbm, ⟨12, _⟩ => ⟨S1x13312, .f32⟩
  | .hbm, ⟨13, _⟩ => ⟨S1x2048, .f32⟩
  | .hbm, ⟨14, _⟩ => ⟨S16384x13312, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c5_i32 : BitVec 32 := 5#32
  let v7 : BitVec 1 := Scalar.cmpi .slt arg1 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c5_i32_5 : BitVec 32 := 5#32
  let v10 : BitVec 1 := Scalar.cmpi .sge arg1 c5_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjRefIdeal.lean ====
abbrev S16384x2048 : Shape := ⟨2, ![16384, 2048]⟩
abbrev S2048 : Shape := ⟨1, ![2048]⟩
abbrev S1x2048 : Shape := ⟨2, ![1, 2048]⟩
abbrev S2048x5120 : Shape := ⟨2, ![2048, 5120]⟩
abbrev S2048x8192 : Shape := ⟨2, ![2048, 8192]⟩
abbrev S8192 : Shape := ⟨1, ![8192]⟩
abbrev S_ : Shape := ⟨0, ![]⟩
abbrev S16384 : Shape := ⟨1, ![16384]⟩
abbrev S16384x1 : Shape := ⟨2, ![16384, 1]⟩
abbrev S16384x5120 : Shape := ⟨2, ![16384, 5120]⟩
abbrev S16384x8192 : Shape := ⟨2, ![16384, 8192]⟩
abbrev S1x8192 : Shape := ⟨2, ![1, 8192]⟩
abbrev S16384x13312 : Shape := ⟨2, ![16384, 13312]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x5120, .f32⟩
  | .hbm, ⟨5, _⟩ => ⟨S2048x8192, .f32⟩
  | .hbm, ⟨6, _⟩ => ⟨S8192, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x5120, .f32⟩
  | .hbm, ⟨31, _⟩ => ⟨S16384x8192, .f32⟩
  | .hbm, ⟨32, _⟩ => ⟨S1x8192, .f32⟩
  | .hbm, ⟨33, _⟩ => ⟨S16384x8192, .f32⟩
  | .hbm, ⟨34, _⟩ => ⟨S16384x8192, .f32⟩
  | .hbm, ⟨35, _⟩ => ⟨S16384x8192, .f32⟩
  | .hbm, ⟨36, _⟩ => ⟨S16384x8192, .f32⟩
  | .hbm, ⟨37, _⟩ => ⟨S_, .f32⟩
  | .hbm, ⟨38, _⟩ => ⟨S16384x8192, .f32⟩
  | .hbm, ⟨39, _⟩ => ⟨S16384x8192, .f32⟩
  | .hbm, ⟨40, _⟩ => ⟨S_, .f32⟩
  | .hbm, ⟨41, _⟩ => ⟨S16384x8192, .f32⟩
  | .hbm, ⟨42, _⟩ => ⟨S16384x8192, .f32⟩
  | .hbm, ⟨43, _⟩ => ⟨S16384x13312, .f32⟩
  | .hbm, ⟨44, _⟩ => ⟨S16384x13312, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== FfnUp.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S_ : Shape := ⟨0, ![]⟩
abbrev S1x11264 : Shape := ⟨2, ![1, 11264]⟩
abbrev S16384x11264 : Shape := ⟨2, ![16384, 11264]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x11264, .f32⟩
  | .hbm, ⟨5, _⟩ => ⟨S2048x11264, .bf16⟩
  | .hbm, ⟨6, _⟩ => ⟨S_, .f32⟩
  | .hbm, ⟨7, _⟩ => ⟨S1x11264, .f32⟩
  | .hbm, ⟨8, _⟩ => ⟨S1x2048, .f32⟩
  | .hbm, ⟨9, _⟩ => ⟨S16384x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnUpRefIdeal.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x11264, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x11264, .f32⟩
  | .hbm, ⟨29, _⟩ => ⟨S16384x11264, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Merge.lean ====
abbrev S16384x512 : Shape := ⟨2, ![16384, 512]⟩
abbrev S16384x1024 : Shape := ⟨2, ![16384, 1024]⟩
abbrev S512x2048 : Shape := ⟨2, ![512, 2048]⟩
abbrev S1024x2048 : Shape := ⟨2, ![1024, 2048]⟩
abbrev S16384x13312 : Shape := ⟨2, ![16384, 13312]⟩
abbrev S16384x2048 : Shape := ⟨2, ![16384, 2048]⟩
abbrev S1024x512 : Shape := ⟨2, ![1024, 512]⟩
abbrev S1024x1024 : Shape := ⟨2, ![1024, 1024]⟩
abbrev S512x512 : Shape := ⟨2, ![512, 512]⟩

abbrev nBuf : Space → Nat
  | .hbm => 14
  | .vmem => 26
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S1024x2048, .f32⟩
  | .hbm, ⟨8, _⟩ => ⟨S16384x13312, .bf16⟩
  | .hbm, ⟨9, _⟩ => ⟨S512x2048, .bf16⟩
  | .hbm, ⟨10, _⟩ => ⟨S512x2048, .bf16⟩
  | .hbm, ⟨11, _⟩ => ⟨S512x2048, .bf16⟩
  | .hbm, ⟨12, _⟩ => ⟨S1024x2048, .bf16⟩
  | .hbm, ⟨13, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S16384x512 : Shape := ⟨2, ![16384, 512]⟩
abbrev S16384x1024 : Shape := ⟨2, ![16384, 1024]⟩
abbrev S512x2048 : Shape := ⟨2, ![512, 2048]⟩
abbrev S1024x2048 : Shape := ⟨2, ![1024, 2048]⟩
abbrev S16384x13312 : Shape := ⟨2, ![16384, 13312]⟩
abbrev S16384x8192 : Shape := ⟨2, ![16384, 8192]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S1024x2048, .f32⟩
  | .hbm, ⟨8, _⟩ => ⟨S16384x13312, .bf16⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x8192, .bf16⟩
  | .hbm, ⟨14, _⟩ => ⟨S16384x8192, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S1x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S16384x2048 : Shape := ⟨2, ![16384, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnDown.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S1x2048, .f32⟩
  | .hbm, ⟨4, _⟩ => ⟨S5632x2048, .bf16⟩
  | .hbm, ⟨5, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownRefIdeal.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S1x2048, .f32⟩
  | .hbm, ⟨4, _⟩ => ⟨S16384x5632, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnAct.lean ====
abbrev S16384x11264 : Shape := ⟨2, ![16384, 11264]⟩
abbrev S3x11264 : Shape := ⟨2, ![3, 11264]⟩
abbrev S16384x5632 : Shape := ⟨2, ![16384, 5632]⟩
abbrev S1024x512 : Shape := ⟨2, ![1024, 512]⟩
abbrev S16x512 : Shape := ⟨2, ![16, 512]⟩
abbrev S3x512 : Shape := ⟨2, ![3, 512]⟩
abbrev S1x512 : Shape := ⟨2, ![1, 512]⟩

abbrev nBuf : Space → Nat
  | .hbm => 3
  | .vmem => 18
  | .smem => 0
  | _ => 0

abbrev bufTy : (tb : Table) → Fin (tcTables nBuf tb) → BufTy
  | .hbm, ⟨0, _⟩ => ⟨S16384x11264, .bf16⟩
  | .hbm, ⟨1, _⟩ => ⟨S3x11264, .f32⟩
  | .hbm, ⟨2, _⟩ => ⟨S16384x5632, .bf16⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S1024x512, .bf16⟩
  | .local _ .vmem, ⟨17, _⟩ => ⟨S1024x512, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c11_i32 : BitVec 32 := 11#32
  let v3 : BitVec 32 := Scalar.addi c11_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnActRefIdeal.lean ====
abbrev S16384x11264 : Shape := ⟨2, ![16384, 11264]⟩
abbrev S3x11264 : Shape := ⟨2, ![3, 11264]⟩
abbrev S1x16384x11264 : Shape := ⟨3, ![1, 16384, 11264]⟩
abbrev S_ : Shape := ⟨0, ![]⟩
abbrev S1x16386x11264 : Shape := ⟨3, ![1, 16386, 11264]⟩
abbrev S1x11264 : Shape := ⟨2, ![1, 11264]⟩
abbrev S11264 : Shape := ⟨1, ![11264]⟩
abbrev S1x1x11264 : Shape := ⟨3, ![1, 1, 11264]⟩
abbrev S1x16384x5632 : Shape := ⟨3, ![1, 16384, 5632]⟩
abbrev S16384x5632 : Shape := ⟨2, ![16384, 5632]⟩

abbrev nBuf : Space → Nat
  | .hbm => 41
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S3x11264, .f32⟩
  | .hbm, ⟨2, _⟩ => ⟨S1x16384x11264, .bf16⟩
  | .hbm, ⟨3, _⟩ => ⟨S1x16384x11264, .f32⟩
  | .hbm, ⟨4, _⟩ => ⟨S_, .i32⟩
  | .hbm, ⟨5, _⟩ => ⟨S_, .f32⟩
  | .hbm, ⟨6, _⟩ => ⟨S1x16386x11264, .f32⟩
  | .hbm, ⟨7, _⟩ => ⟨S1x16384x11264, .f32⟩
  | .hbm, ⟨8, _⟩ => ⟨S1x11264, .f32⟩
  | .hbm, ⟨9, _⟩ => ⟨S11264, .f32⟩
  | .hbm, ⟨10, _⟩ => ⟨S1x1x11264, .f32⟩
  | .hbm, ⟨11, _⟩ => ⟨S1x16384x11264, .f32⟩
  | .hbm, ⟨12, _⟩ => ⟨S1x16384x11264, .f32⟩
  | .hbm, ⟨13, _⟩ => ⟨S1x16384x11264, .f32⟩
  | .hbm, ⟨14, _⟩ => ⟨S1x11264, .f32⟩
  | .hbm, ⟨15, _⟩ => ⟨S11264, .f32⟩
  | .hbm, ⟨16, _⟩ => ⟨S1x1x11264, .f32⟩
  | .hbm, ⟨17, _⟩ => ⟨S1x16384x11264, .f32⟩
  | .hbm, ⟨18, _⟩ => ⟨S1x16384x11264, .f32⟩
  | .hbm, ⟨19, _⟩ => ⟨S1x16384x11264, .f32⟩
  | .hbm, ⟨20, _⟩ => ⟨S1x16384x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S1x16384x11264, .f32⟩
  | .hbm, ⟨25, _⟩ => ⟨S1x16384x11264, .f32⟩
  | .hbm, ⟨26, _⟩ => ⟨S1x16384x11264, .f32⟩
  | .hbm, ⟨27, _⟩ => ⟨S1x16384x5632, .f32⟩
  | .hbm, ⟨28, _⟩ => ⟨S1x16384x5632, .f32⟩
  | .hbm, ⟨29, _⟩ => ⟨S1x16384x5632, .f32⟩
  | .hbm, ⟨30, _⟩ => ⟨S1x16384x5632, .f32⟩
  | .hbm, ⟨31, _⟩ => ⟨S_, .f32⟩
  | .hbm, ⟨32, _⟩ => ⟨S1x16384x5632, .f32⟩
  | .hbm, ⟨33, _⟩ => ⟨S1x16384x5632, .f32⟩
  | .hbm, ⟨34, _⟩ => ⟨S_, .f32⟩
  | .hbm, ⟨35, _⟩ => ⟨S1x16384x5632, .f32⟩
  | .hbm, ⟨36, _⟩ => ⟨S1x16384x5632, .f32⟩
  | .hbm, ⟨37, _⟩ => ⟨S1x16384x5632, .f32⟩
  | .hbm, ⟨38, _⟩ => ⟨S1x16384x5632, .f32⟩
  | .hbm, ⟨39, _⟩ => ⟨S16384x5632, .f32⟩
  | .hbm, ⟨40, _⟩ => ⟨S16384x5632, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== ConvMixer.lean ====
abbrev S16384x13312 : Shape := ⟨2, ![16384, 13312]⟩
abbrev S3x512 : Shape := ⟨2, ![3, 512]⟩
abbrev S16384x512 : Shape := ⟨2, ![16384, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 3
  | .vmem => 17
  | .smem => 0
  | _ => 0

abbrev bufTy : (tb : Table) → Fin (tcTables nBuf tb) → BufTy
  | .hbm, ⟨0, _⟩ => ⟨S16384x13312, .bf16⟩
  | .hbm, ⟨1, _⟩ => ⟨S3x512, .f32⟩
  | .hbm, ⟨2, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1024x512, .bf16⟩
  | .local _ .vmem, ⟨13, _⟩ => ⟨S1024x512, .bf16⟩
  | .local _ .vmem, ⟨14, _⟩ => ⟨S3x512, .f32⟩
  | .local _ .vmem, ⟨15, _⟩ => ⟨S1024x512, .bf16⟩
  | .local _ .vmem, ⟨16, _⟩ => ⟨S1024x512, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvMixerRefIdeal.lean ====
abbrev S16384x13312 : Shape := ⟨2, ![16384, 13312]⟩
abbrev S3x512 : Shape := ⟨2, ![3, 512]⟩
abbrev S16384x1536 : Shape := ⟨2, ![16384, 1536]⟩
abbrev S1x16384x1536 : Shape := ⟨3, ![1, 16384, 1536]⟩
abbrev S1x16384x512 : Shape := ⟨3, ![1, 16384, 512]⟩
abbrev S_ : Shape := ⟨0, ![]⟩
abbrev S1x16386x512 : Shape := ⟨3, ![1, 16386, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x13312, .bf16⟩
  | .hbm, ⟨1, _⟩ => ⟨S3x512, .f32⟩
  | .hbm, ⟨2, _⟩ => ⟨S16384x1536, .bf16⟩
  | .hbm, ⟨3, _⟩ => ⟨S1x16384x1536, .bf16⟩
  | .hbm, ⟨4, _⟩ => ⟨S1x16384x1536, .f32⟩
  | .hbm, ⟨5, _⟩ => ⟨S1x16384x512, .f32⟩
  | .hbm, ⟨6, _⟩ => ⟨S1x16384x512, .f32⟩
  | .hbm, ⟨7, _⟩ => ⟨S1x16384x512, .f32⟩
  | .hbm, ⟨8, _⟩ => ⟨S1x16384x512, .f32⟩
  | .hbm, ⟨9, _⟩ => ⟨S_, .i32⟩
  | .hbm, ⟨10, _⟩ => ⟨S_, .f32⟩
  | .hbm, ⟨11, _⟩ => ⟨S1x16386x512, .f32⟩
  | .hbm, ⟨12, _⟩ => ⟨S1x16384x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S1x16384x512, .f32⟩
  | .hbm, ⟨17, _⟩ => ⟨S1x16384x512, .f32⟩
  | .hbm, ⟨18, _⟩ => ⟨S1x16384x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S1x16384x512, .f32⟩
  | .hbm, ⟨23, _⟩ => ⟨S1x16384x512, .f32⟩
  | .hbm, ⟨24, _⟩ => ⟨S1x16384x512, .f32⟩
  | .hbm, ⟨25, _⟩ => ⟨S1x16384x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S1x16384x512, .f32⟩
  | .hbm, ⟨30, _⟩ => ⟨S1x16384x512, .f32⟩
  | .hbm, ⟨31, _⟩ => ⟨S1x16384x512, .f32⟩
  | .hbm, ⟨32, _⟩ => ⟨S1x16384x512, .f32⟩
  | .hbm, ⟨33, _⟩ => ⟨S16384x512, .f32⟩
  | .hbm, ⟨34, _⟩ => ⟨S16384x512, .bf16⟩
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== HeadQueries.lean ====
abbrev S16384x13312 : Shape := ⟨2, ![16384, 13312]⟩
abbrev S128 : Shape := ⟨1, ![128]⟩
abbrev S1x128 : Shape := ⟨2, ![1, 128]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S8x128x16384 : Shape := ⟨3, ![8, 128, 16384]⟩
abbrev S512x256 : Shape := ⟨2, ![512, 256]⟩
abbrev S512x128 : Shape := ⟨2, ![512, 128]⟩
abbrev S2x128x512 : Shape := ⟨3, ![2, 128, 512]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩

abbrev nBuf : Space → Nat
  | .hbm => 71
  | .vmem => 9
  | .smem => 0
  | _ => 0

abbrev bufTy : (tb : Table) → Fin (tcTables nBuf tb) → BufTy
  | .hbm, ⟨0, _⟩ => ⟨S16384x13312, .bf16⟩
  | .hbm, ⟨1, _⟩ => ⟨S128, .f32⟩
  | .hbm, ⟨2, _⟩ => ⟨S1x128, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S16384x1, .f32⟩
  | .hbm, ⟨55, _⟩ => ⟨S1x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x1, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S16384x64, .f32⟩
  | .hbm, ⟨65, _⟩ => ⟨S16384x64, .f32⟩
  | .hbm, ⟨66, _⟩ => ⟨S16384x64, .f32⟩
  | .hbm, ⟨67, _⟩ => ⟨S16384x128, .f32⟩
  | .hbm, ⟨68, _⟩ => ⟨S16384x64, .f32⟩
  | .hbm, ⟨69, _⟩ => ⟨S16384x128, .f32⟩
  | .hbm, ⟨70, _⟩ => ⟨S8x128x16384, .bf16⟩
  | .local _ .vmem, ⟨0, _⟩ => ⟨S512x256, .bf16⟩
  | .local _ .vmem, ⟨1, _⟩ => ⟨S512x256, .bf16⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S2x128x512, .bf16⟩
  | .local _ .vmem, ⟨8, _⟩ => ⟨S2x128x512, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HeadQueriesRefIdeal.lean ====
abbrev S16384x13312 : Shape := ⟨2, ![16384, 13312]⟩
abbrev S128 : Shape := ⟨1, ![128]⟩
abbrev S16384x1024 : Shape := ⟨2, ![16384, 1024]⟩
abbrev S1x16384x1024 : Shape := ⟨3, ![1, 16384, 1024]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x8x128 : Shape := ⟨4, ![1, 16384, 8, 128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S1x16384x8x64 : Shape := ⟨4, ![1, 16384, 8, 64]⟩
abbrev S16384x8x128 : Shape := ⟨3, ![16384, 8, 128]⟩
abbrev S8x128x16384 : Shape := ⟨3, ![8, 128, 16384]⟩

abbrev nBuf : Space → Nat
  | .hbm => 107
  | .vmem => 0
  | .smem => 0
  | _ => 0

abbrev bufTy : (tb : Table) → Fin (tcTables nBuf tb) → BufTy
  | .hbm, ⟨0, _⟩ => ⟨S16384x13312, .bf16⟩
  | .hbm, ⟨1, _⟩ => ⟨S128, .f32⟩
  | .hbm, ⟨2, _⟩ => ⟨S16384x1024, .bf16⟩
  | .hbm, ⟨3, _⟩ => ⟨S1x16384x1024, .bf16⟩
  | .hbm, ⟨4, _⟩ => ⟨S1x16384x1024, .f32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S16384x1, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S16384x1, .f32⟩
  | .hbm, ⟨62, _⟩ => ⟨S1x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S16384x64, .f32⟩
  | .hbm, ⟨67, _⟩ => ⟨S16384x64, .f32⟩
  | .hbm, ⟨68, _⟩ => ⟨S1x16384x1x64, .f32⟩
  | .hbm, ⟨69, _⟩ => ⟨S16384x64, .f32⟩
  | .hbm, ⟨70, _⟩ => ⟨S1x16384x1x64, .f32⟩
  | .hbm, ⟨71, _⟩ => ⟨S1x16384x8x128, .f32⟩
  | .hbm, ⟨72, _⟩ => ⟨S1x16384x8x128, .f32⟩
  | .hbm, ⟨73, _⟩ => ⟨S_, .f32⟩
  | .hbm, ⟨74, _⟩ => ⟨S1x16384x8, .f32⟩
  | .hbm, ⟨75, _⟩ => ⟨S1x16384x8x1, .f32⟩
  | .hbm, ⟨76, _⟩ => ⟨S_, .f32⟩
  | .hbm, ⟨77, _⟩ => ⟨S1x16384x8x1, .f32⟩
  | .hbm, ⟨78, _⟩ => ⟨S1x16384x8x1, .f32⟩
  | .hbm, ⟨79, _⟩ => ⟨S_, .f32⟩
  | .hbm, ⟨80, _⟩ => ⟨S1x16384x8x1, .f32⟩
  | .hbm, ⟨81, _⟩ => ⟨S1x16384x8x1, .f32⟩
  | .hbm, ⟨82, _⟩ => ⟨S1x16384x8x1, .f32⟩
  | .hbm, ⟨83, _⟩ => ⟨S1x16384x8x128, .f32⟩
  | .hbm, ⟨84, _⟩ => ⟨S1x16384x8x128, .f32⟩
  | .hbm, ⟨85, _⟩ => ⟨S1x1x1x128, .f32⟩
  | .hbm, ⟨86, _⟩ => ⟨S1x16384x8x128, .f32⟩
  | .hbm, ⟨87, _⟩ => ⟨S1x16384x8x128, .f32⟩
  | .hbm, ⟨88, _⟩ => ⟨S1x16384x8x64, .f32⟩
  | .hbm, ⟨89, _⟩ => ⟨S1x16384x8x64, .f32⟩
  | .hbm, ⟨90, _⟩ => ⟨S1x16384x8x64, .f32⟩
  | .hbm, ⟨91, _⟩ => ⟨S1x16384x8x64, .f32⟩
  | .hbm, ⟨92, _⟩ => ⟨S1x16384x8x64, .f32⟩
  | .hbm, ⟨93, _⟩ => ⟨S1x16384x8x64, .f32⟩
  | .hbm, ⟨94, _⟩ => ⟨S1x16384x8x64, .f32⟩
  | .hbm, ⟨95, _⟩ => ⟨S1x16384x8x64, .f32⟩
  | .hbm, ⟨96, _⟩ => ⟨S1x16384x8x64, .f32⟩
  | .hbm, ⟨97, _⟩ => ⟨S1x16384x8x64, .f32⟩
  | .hbm, ⟨98, _⟩ => ⟨S1x16384x8x64, .f32⟩
  | .hbm, ⟨99, _⟩ => ⟨S1x16384x8x64, .f32⟩
  | .hbm, ⟨100, _⟩ => ⟨S1x16384x8x128, .f32⟩
  | .hbm, ⟨101, _⟩ => ⟨S_, .f32⟩
  | .hbm, ⟨102, _⟩ => ⟨S1x16384x8x128, .f32⟩
  | .hbm, ⟨103, _⟩ => ⟨S1x16384x8x128, .f32⟩
  | .hbm, ⟨104, _⟩ => ⟨S16384x8x128, .f32⟩
  | .hbm, ⟨105, _⟩ => ⟨S8x128x16384, .f32⟩
  | .hbm, ⟨106, _⟩ => ⟨S8x128x16384, .bf16⟩
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_2 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_v33 : Ref sig .tc := ⟨.hbm, 77, rfl⟩
abbrev main_v34 : Ref sig .tc := ⟨.hbm, 78, rfl⟩
abbrev main_cst_4 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_5 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩

abbrev nD : Nat := 1
abbrev τ : Topo := Topo.v7x

variable {F : FTy → Type} [FloatOps F]
-- ==== Modulation.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== HeadKeys.lean ====
abbrev S16384x13312 : Shape := ⟨2, ![16384, 13312]⟩
abbrev S128 : Shape := ⟨1, ![128]⟩
abbrev S1x128 : Shape := ⟨2, ![1, 128]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S2x16384x128 : Shape := ⟨3, ![2, 16384, 128]⟩
abbrev S512x256 : Shape := ⟨2, ![512, 256]⟩
abbrev S512x128 : Shape := ⟨2, ![512, 128]⟩
abbrev S2x512x128 : Shape := ⟨3, ![2, 512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 71
  | .vmem => 9
  | .smem => 0
  | _ => 0

abbrev bufTy : (tb : Table) → Fin (tcTables nBuf tb) → BufTy
  | .hbm, ⟨0, _⟩ => ⟨S16384x13312, .bf16⟩
  | .hbm, ⟨1, _⟩ => ⟨S128, .f32⟩
  | .hbm, ⟨2, _⟩ => ⟨S1x128, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S16384x1, .f32⟩
  | .hbm, ⟨55, _⟩ => ⟨S1x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x1, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S16384x64, .f32⟩
  | .hbm, ⟨65, _⟩ => ⟨S16384x64, .f32⟩
  | .hbm, ⟨66, _⟩ => ⟨S16384x64, .f32⟩
  | .hbm, ⟨67, _⟩ => ⟨S16384x128, .f32⟩
  | .hbm, ⟨68, _⟩ => ⟨S16384x64, .f32⟩
  | .hbm, ⟨69, _⟩ => ⟨S16384x128, .f32⟩
  | .hbm, ⟨70, _⟩ => ⟨S2x16384x128, .bf16⟩
  | .local _ .vmem, ⟨0, _⟩ => ⟨S512x256, .bf16⟩
  | .local _ .vmem, ⟨1, _⟩ => ⟨S512x256, .bf16⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S2x512x128, .bf16⟩
  | .local _ .vmem, ⟨8, _⟩ => ⟨S2x512x128, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HeadKeysRefIdeal.lean ====
abbrev S16384x13312 : Shape := ⟨2, ![16384, 13312]⟩
abbrev S128 : Shape := ⟨1, ![128]⟩
abbrev S16384x256 : Shape := ⟨2, ![16384, 256]⟩
abbrev S1x16384x256 : Shape := ⟨3, ![1, 16384, 256]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x128 : Shape := ⟨4, ![1, 16384, 2, 128]⟩
abbrev S1x16384x2 : Shape := ⟨3, ![1, 16384, 2]⟩
abbrev S1x16384x2x1 : Shape := ⟨4, ![1, 16384, 2, 1]⟩
abbrev S1x1x1x128 : Shape := ⟨4, ![1, 1, 1, 128]⟩
abbrev S1x16384x2x64 : Shape := ⟨4, ![1, 16384, 2, 64]⟩
abbrev S16384x2x128 : Shape := ⟨3, ![16384, 2, 128]⟩
abbrev S2x16384x128 : Shape := ⟨3, ![2, 16384, 128]⟩

abbrev nBuf : Space → Nat
  | .hbm => 104
  | .vmem => 0
  | .smem => 0
  | _ => 0

abbrev bufTy : (tb : Table) → Fin (tcTables nBuf tb) → BufTy
  | .hbm, ⟨0, _⟩ => ⟨S16384x13312, .bf16⟩
  | .hbm, ⟨1, _⟩ => ⟨S128, .f32⟩
  | .hbm, ⟨2, _⟩ => ⟨S16384x256, .bf16⟩
  | .hbm, ⟨3, _⟩ => ⟨S1x16384x256, .bf16⟩
  | .hbm, ⟨4, _⟩ => ⟨S1x16384x256, .f32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S16384x1, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S16384x1, .f32⟩
  | .hbm, ⟨62, _⟩ => ⟨S1x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S16384x64, .f32⟩
  | .hbm, ⟨67, _⟩ => ⟨S16384x64, .f32⟩
  | .hbm, ⟨68, _⟩ => ⟨S1x16384x1x64, .f32⟩
  | .hbm, ⟨69, _⟩ => ⟨S16384x64, .f32⟩
  | .hbm, ⟨70, _⟩ => ⟨S1x16384x1x64, .f32⟩
  | .hbm, ⟨71, _⟩ => ⟨S1x16384x2x128, .f32⟩
  | .hbm, ⟨72, _⟩ => ⟨S1x16384x2x128, .f32⟩
  | .hbm, ⟨73, _⟩ => ⟨S_, .f32⟩
  | .hbm, ⟨74, _⟩ => ⟨S1x16384x2, .f32⟩
  | .hbm, ⟨75, _⟩ => ⟨S1x16384x2x1, .f32⟩
  | .hbm, ⟨76, _⟩ => ⟨S_, .f32⟩
  | .hbm, ⟨77, _⟩ => ⟨S1x16384x2x1, .f32⟩
  | .hbm, ⟨78, _⟩ => ⟨S1x16384x2x1, .f32⟩
  | .hbm, ⟨79, _⟩ => ⟨S_, .f32⟩
  | .hbm, ⟨80, _⟩ => ⟨S1x16384x2x1, .f32⟩
  | .hbm, ⟨81, _⟩ => ⟨S1x16384x2x1, .f32⟩
  | .hbm, ⟨82, _⟩ => ⟨S1x16384x2x1, .f32⟩
  | .hbm, ⟨83, _⟩ => ⟨S1x16384x2x128, .f32⟩
  | .hbm, ⟨84, _⟩ => ⟨S1x16384x2x128, .f32⟩
  | .hbm, ⟨85, _⟩ => ⟨S1x1x1x128, .f32⟩
  | .hbm, ⟨86, _⟩ => ⟨S1x16384x2x128, .f32⟩
  | .hbm, ⟨87, _⟩ => ⟨S1x16384x2x128, .f32⟩
  | .hbm, ⟨88, _⟩ => ⟨S1x16384x2x64, .f32⟩
  | .hbm, ⟨89, _⟩ => ⟨S1x16384x2x64, .f32⟩
  | .hbm, ⟨90, _⟩ => ⟨S1x16384x2x64, .f32⟩
  | .hbm, ⟨91, _⟩ => ⟨S1x16384x2x64, .f32⟩
  | .hbm, ⟨92, _⟩ => ⟨S1x16384x2x64, .f32⟩
  | .hbm, ⟨93, _⟩ => ⟨S1x16384x2x64, .f32⟩
  | .hbm, ⟨94, _⟩ => ⟨S1x16384x2x64, .f32⟩
  | .hbm, ⟨95, _⟩ => ⟨S1x16384x2x64, .f32⟩
  | .hbm, ⟨96, _⟩ => ⟨S1x16384x2x64, .f32⟩
  | .hbm, ⟨97, _⟩ => ⟨S1x16384x2x64, .f32⟩
  | .hbm, ⟨98, _⟩ => ⟨S1x16384x2x64, .f32⟩
  | .hbm, ⟨99, _⟩ => ⟨S1x16384x2x64, .f32⟩
  | .hbm, ⟨100, _⟩ => ⟨S1x16384x2x128, .f32⟩
  | .hbm, ⟨101, _⟩ => ⟨S16384x2x128, .f32⟩
  | .hbm, ⟨102, _⟩ => ⟨S2x16384x128, .f32⟩
  | .hbm, ⟨103, _⟩ => ⟨S2x16384x128, .bf16⟩
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_2 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_v33 : Ref sig .tc := ⟨.hbm, 77, rfl⟩
abbrev main_v34 : Ref sig .tc := ⟨.hbm, 78, rfl⟩
abbrev main_cst_4 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩

abbrev nD : Nat := 1
abbrev τ : Topo := Topo.v7x

variable {F : FTy → Type} [FloatOps F]
-- ==== HeadValues.lean ====
abbrev S16384x13312 : Shape := ⟨2, ![16384, 13312]⟩
abbrev S2x128x16384 : Shape := ⟨3, ![2, 128, 16384]⟩
abbrev S512x256 : Shape := ⟨2, ![512, 256]⟩
abbrev S2x128x512 : Shape := ⟨3, ![2, 128, 512]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S16384x13312, .bf16⟩
  | .hbm, ⟨1, _⟩ => ⟨S2x128x16384, .bf16⟩
  | .local _ .vmem, ⟨0, _⟩ => ⟨S512x256, .bf16⟩
  | .local _ .vmem, ⟨1, _⟩ => ⟨S512x256, .bf16⟩
  | .local _ .vmem, ⟨2, _⟩ => ⟨S2x128x512, .bf16⟩
  | .local _ .vmem, ⟨3, _⟩ => ⟨S2x128x512, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== HeadValuesRefIdeal.lean ====
abbrev S16384x13312 : Shape := ⟨2, ![16384, 13312]⟩
abbrev S16384x256 : Shape := ⟨2, ![16384, 256]⟩
abbrev S1x16384x256 : Shape := ⟨3, ![1, 16384, 256]⟩
abbrev S1x16384x2x128 : Shape := ⟨4, ![1, 16384, 2, 128]⟩
abbrev S16384x2x128 : Shape := ⟨3, ![16384, 2, 128]⟩
abbrev S2x128x16384 : Shape := ⟨3, ![2, 128, 16384]⟩

abbrev nBuf : Space → Nat
  | .hbm => 6
  | .vmem => 0
  | .smem => 0
  | _ => 0

abbrev bufTy : (tb : Table) → Fin (tcTables nBuf tb) → BufTy
  | .hbm, ⟨0, _⟩ => ⟨S16384x13312, .bf16⟩
  | .hbm, ⟨1, _⟩ => ⟨S16384x256, .bf16⟩
  | .hbm, ⟨2, _⟩ => ⟨S1x16384x256, .bf16⟩
  | .hbm, ⟨3, _⟩ => ⟨S1x16384x2x128, .bf16⟩
  | .hbm, ⟨4, _⟩ => ⟨S16384x2x128, .bf16⟩
  | .hbm, ⟨5, _⟩ => ⟨S2x128x16384, .bf16⟩
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.InProj.lean ====
/- The input projection with its gates.  For each block of 1024 rows the first of thirteen grid points normalizes the
   rows, modulates them and keeps them in a scratch; every point multiplies those kept rows by its own block of
   columns.  The first five blocks of columns are left as they are, and the other eight are gates: a bias is added and
   the logistic function taken.  The reference computes the two ranges of columns apart and joins them. -/
module

public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.InProjIdeal.Result

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

/-- The reference's result of the argument arrays that the kernel is given. -/
abbrev projected (c : Dev nD) : FVec Ideal S16384x13312 .bf16 :=
  val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Where each window's block lies at point `t`: thirteen points to a block of rows. -/
theorem places : ∀ t : Fin cfg0.N, win0_0.index t = ![t.val / 13, 0] ∧ win0_1.index t = ![0, 0]
    ∧ win0_2.index t = ![0, 0] ∧ win0_3.index t = ![0, 0] ∧ win0_4.index t = ![0, t.val % 13]
    ∧ win0_5.index t = ![0, t.val % 13]
    ∧ win0_6.index t = ![t.val / 13, t.val % 13] :=
  (by decide +kernel : ∀ t : Fin grid0.N, _)

/-- The normalized and modulated rows that a point of the first kind computes from its blocks. -/
abbrev rows (c : Dev nD) (t : Fin cfg0.N) : FVec Ideal S1024x2048 .bf16 :=
  k0_pay1 (iblk m c 0 t) (iblk m c 1 t) (iblk m c 3 t) (iblk m c 2 t)

/-- The first point of a block of rows leaves the normalized rows in the scratch. -/
theorem scratch_first (c : Dev nD) (t : Fin cfg0.N) (h : t.val % 13 = 0) (y) :
    (outsAt0 m c t.val t.isLt).2 y = rows m c t y := by
  rw [outsAt0_A m c t h (by omega) (by omega)]
  frame_out

/-- Every other point leaves the scratch as the point before it did. -/
theorem scratch_next (c : Dev nD) (t : Fin cfg0.N) (h : ¬t.val % 13 = 0) (y) :
    (outsAt0 m c t.val t.isLt).2 y = (outsAt0 m c (t.val - 1) (Nat.lt_of_le_of_lt (Nat.sub_le _ _) t.isLt)).2 y := by
  by_cases hp : t.val % 13 ≤ 4
  · rw [outsAt0_B m c t h hp (by omega)]
    rfl
  · rw [outsAt0_C m c t h hp (by omega)]
    rfl

/-- So at every point the scratch holds the rows that the first point of its run of thirteen computed. -/
theorem scratch (c : Dev nD) (t : Fin cfg0.N) :
    (outsAt0 m c t.val t.isLt).2 = rows m c ⟨13 * (t.val / 13), Pipeline.run_start_lt t⟩ :=
  funext fun y => Pipeline.eq_of_write_hold_apply (fun n h => (outsAt0 m c n h).2) 13 (rows m c) (scratch_first m c)
    (scratch_next m c) t y

/-- In the first five blocks of columns a point computes the product of the rows in the scratch and its columns. -/
theorem block_plain (c : Dev nD) (t : Fin cfg0.N) (hp : t.val % 13 ≤ 4) (y) :
    (outsAt0 m c t.val t.isLt).1 y = k0_pay3 (F := Ideal) (outsAt0 m c t.val t.isLt).2 (iblk m c 4 t) y := by
  by_cases h : t.val % 13 = 0
  · rw [outsAt0_A m c t h hp (by omega)]
    frame_out
  · rw [outsAt0_B m c t h hp (by omega)]
    frame_out
    simp only [read_unread_whole]
    rfl

/-- In the other blocks it computes the gates: the logistic function of that product and a bias. -/
theorem block_gate (c : Dev nD) (t : Fin cfg0.N) (hp : ¬t.val % 13 ≤ 4) (y) :
    (outsAt0 m c t.val t.isLt).1 y
      = k0_pay4 (F := Ideal) (outsAt0 m c t.val t.isLt).2 (iblk m c 4 t) (iblk m c 5 t) y := by
  rw [outsAt0_C m c t (by omega) hp (by omega)]
  frame_out
  simp only [read_unread_whole]
  rfl

/-- The reference's normalized and modulated rows, of the kernel's arguments. -/
abbrev normed (c : Dev nD) : FVec Ideal S16384x2048 .f32 :=
  val_main_v18 (F := Ideal) (m ((c : Thread nD τ).loc main_arg0)) (m ((c : Thread nD τ).loc main_arg1))
    (m ((c : Thread nD τ).loc main_arg2)) (m ((c : Thread nD τ).loc main_arg3))

/-- The gain is staged as one row. -/
theorem gain (c : Dev nD) (k : Fin 2048) :
    V m c main_v5 (ix2 0 k) = m ((c : Thread nD τ).loc main_arg1) (ix1 k) := by
  entry_read
  pointwise

/-- The rows that a point computes are the reference's rows at its place. -/
theorem rows_eq (c : Dev nD) (t : Fin cfg0.N) (r : Fin 1024) (k : Fin 2048) (i : Fin 16384)
    (hi : i.val = t.val / 13 * 1024 + r.val) : rows m c t (ix2 r k) = normed m c (ix2 i k) := by
  pointwise [rows, k0_pay1, normed, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  blk_point [iblk, V, places t]

/-- The staged weight is the two weights side by side: its first 5120 columns. -/
theorem weight_plain (c : Dev nD) (k : Fin 2048) (j : Fin 13312) (h : j.val < 5120) :
    V m c main_v1 (ix2 k j) = m ((c : Thread nD τ).loc main_arg4) (ix2 k ⟨j.val, h⟩) := by
  entry_read
  pointwise
  rw [dif_pos h]

/-- The staged weight's other columns are the gates'. -/
theorem weight_gate (c : Dev nD) (k : Fin 2048) (j : Fin 13312) (h : ¬j.val < 5120) (g : Fin 8192) (hg : g.val = j.val - 5120) :
    V m c main_v1 (ix2 k j) = m ((c : Thread nD τ).loc main_arg5) (ix2 k g) := by
  entry_read
  pointwise
  rw [dif_neg h]
  blk_ext

/-- The staged bias has the gates' bias at the gates' columns. -/
theorem bias_gate (c : Dev nD) (j : Fin 13312) (h : ¬j.val < 5120) (g : Fin 8192) (hg : g.val = j.val - 5120) :
    V m c main_v4 (ix2 0 j) = m ((c : Thread nD τ).loc main_arg6) (ix1 g) := by
  entry_read
  pointwise
  rw [dif_neg h]
  blk_ext

/-- A point's block of columns of the staged weight. -/
theorem columns (c : Dev nD) (t : Fin cfg0.N) (k : Fin 2048) (s : Fin 1024) (j : Fin 13312)
    (hj : j.val = t.val % 13 * 1024 + s.val) : iblk m c 4 t (ix2 k s) = V m c main_v1 (ix2 k j) := by
  blk_ext [iblk, places t]

/-- A point's block of the staged bias. -/
theorem biases (c : Dev nD) (t : Fin cfg0.N) (s : Fin 1024) (j : Fin 13312)
    (hj : j.val = t.val % 13 * 1024 + s.val) : iblk m c 5 t (ix2 0 s) = V m c main_v4 (ix2 0 j) := by
  blk_ext [iblk, places t]

/-- The rows in the scratch are the reference's rows. -/
theorem scratch_eq (c : Dev nD) (t : Fin cfg0.N) (r : Fin 1024) (k : Fin 2048) (i : Fin 16384)
    (hi : i.val = t.val / 13 * 1024 + r.val) : (outsAt0 m c t.val t.isLt).2 (ix2 r k) = normed m c (ix2 i k) := by
  rw [scratch]
  exact rows_eq m c _ r k i (by rw [hi]; show _ = 13 * (t.val / 13) / 13 * 1024 + r.val; omega)

/-- An entry of the first five blocks of columns. -/
theorem entry_plain (c : Dev nD) (t : Fin cfg0.N) (hp : t.val % 13 ≤ 4) (r s : Fin 1024) (i : Fin 16384) (j : Fin 13312)
    (hi : i.val = t.val / 13 * 1024 + r.val) (hj : j.val = t.val % 13 * 1024 + s.val) :
    (outsAt0 m c t.val t.isLt).1 (ix2 r s) = projected m c (ix2 i j) := by
  have h : j.val < 5120 := by omega
  rw [block_plain m c t hp]
  pointwise [k0_pay2, k0_pay3, projected, val_main_v31, val_main_v30, val_main_v19]
  rw [dif_pos h]
  refine Finset.sum_congr rfl fun k _ => ?_
  rw [columns m c t k s j hj, weight_plain m c k j h, scratch_eq m c t r k i hi]

/-- An entry of the gates' columns. -/
theorem entry_gate (c : Dev nD) (t : Fin cfg0.N) (hp : ¬t.val % 13 ≤ 4) (r s : Fin 1024) (i : Fin 16384) (j : Fin 13312)
    (hi : i.val = t.val / 13 * 1024 + r.val) (hj : j.val = t.val % 13 * 1024 + s.val) :
    (outsAt0 m c t.val t.isLt).1 (ix2 r s) = projected m c (ix2 i j) := by
  have h : ¬j.val < 5120 := by omega
  have hx : ∑ k : Fin 2048, (outsAt0 m c t.val t.isLt).2 (ix2 r k) * iblk m c 4 t (ix2 k s)
      = ∑ k : Fin 2048, normed m c (ix2 i k) * m ((c : Thread nD τ).loc main_arg5) (ix2 k ⟨j.val - 5120, by omega⟩) :=
    Finset.sum_congr rfl fun k _ => by
      rw [columns m c t k s j hj, weight_gate m c k j h ⟨j.val - 5120, by omega⟩ rfl, scratch_eq m c t r k i hi]
  rw [block_gate m c t hp]
  pointwise [k0_pay2, k0_pay4, projected, val_main_v31, val_main_v30, val_main_v29, val_main_v28, val_main_v27,
    val_main_v26, val_main_v25, val_main_v24, val_main_v23, val_main_v22, val_main_v21, val_main_v20, val_main_cst_3,
    val_main_cst_4]
  rw [dif_neg h, hx, biases m c t s j hj, bias_gate m c j h ⟨j.val - 5120, by omega⟩ rfl, zero_sub]

/-- The result array after the run. -/
theorem result (c : Dev nD) : (dats m 0 c).arrAt 6 (cfgs 0).N = projected m c := by
  refine (dats m 0 c).arrAt_eq_of_covers 6 _ (by decide +kernel) fun t _ y => ?_
  blk_simp
  rw [after0_6]
  generalize hz : ((cfg0.win 6).blk t).view.emb y = z
  have h0 : (z 0).val = t.val / 13 * 1024 + (y 0).val := by rw [← hz]; blk_simp [places t]
  have h1 : (z 1).val = t.val % 13 * 1024 + (y 1).val := by rw [← hz]; blk_simp [places t]
  idx_vars y
  idx_vars z
  by_cases hp : t.val % 13 ≤ 4
  · exact entry_plain m c t hp _ _ _ _ h0 h1
  · exact entry_gate m c t hp _ _ _ _ h0 h1

end Cert.InProjIdeal.Result

end
-- ==== Proof.FfnUp.lean ====
/- The feed-forward up projection.  For each block of 1024 rows the first of eleven grid points normalizes the rows,
   modulates them and keeps them in a scratch; every point then multiplies those kept rows by its own block of
   columns of the weight.  What the scratch holds is followed through the eleven points, and each entry of a block is
   then the reference's entry at its place. -/
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.FfnUpIdeal.Result

open Cert.FfnUpIdeal Cert.FfnUpIdeal.Gen Idealize.ShloMosaic Idealize.ShloMosaic.TcCoe Idealize.SL.Sem
open Idealize.ShloMosaic.Pipeline (Dat)
open Cert.FfnUpRefIdeal.Read

variable (m : (ℓ : Loc nD τ sig) → Buf (Elt Ideal) ℓ)

/-- The reference's result of the argument arrays that the kernel is given. -/
abbrev projected (c : Dev nD) : FVec Ideal S16384x11264 .bf16 :=
  val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block lies at point `t`: eleven points to a block of rows. -/
theorem places : ∀ t : Fin cfg0.N, win0_0.index t = ![t.val / 11, 0] ∧ win0_1.index t = ![0, 0]
    ∧ win0_2.index t = ![0, 0] ∧ win0_3.index t = ![0, 0] ∧ win0_4.index t = ![0, t.val % 11]
    ∧ win0_6.index t = ![t.val / 11, t.val % 11] :=
  (by decide +kernel : ∀ t : Fin grid0.N, _)

/-- The normalized and modulated rows that a point of the first kind computes from its blocks. -/
abbrev rows (c : Dev nD) (t : Fin cfg0.N) : FVec Ideal S1024x2048 .bf16 :=
  k0_pay1 (iblk m c 0 t) (iblk m c 1 t) (iblk m c 3 t) (iblk m c 2 t)

/-- The first point of a block of rows leaves the normalized rows in the scratch. -/
theorem scratch_first (c : Dev nD) (t : Fin cfg0.N) (h : t.val % 11 = 0) (y) :
    (outsAt0 m c t.val t.isLt).2 y = rows m c t y := by
  rw [outsAt0_A m c t h]
  frame_out

/-- Every other point leaves the scratch as the point before it did. -/
theorem scratch_next (c : Dev nD) (t : Fin cfg0.N) (h : ¬t.val % 11 = 0) (y) :
    (outsAt0 m c t.val t.isLt).2 y = (outsAt0 m c (t.val - 1) (Nat.lt_of_le_of_lt (Nat.sub_le _ _) t.isLt)).2 y := by
  rw [outsAt0_B m c t h]
  rfl

/-- So at every point the scratch holds the rows that the first point of its run of eleven computed. -/
theorem scratch (c : Dev nD) (t : Fin cfg0.N) (y) :
    (outsAt0 m c t.val t.isLt).2 y = rows m c ⟨11 * (t.val / 11), Pipeline.run_start_lt t⟩ y :=
  Pipeline.eq_of_write_hold_apply (fun n h => (outsAt0 m c n h).2) 11 (rows m c) (scratch_first m c) (scratch_next m c) t y

/-- The block that a point computes is the product of the rows in the scratch after it and its block of columns. -/
theorem block (c : Dev nD) (t : Fin cfg0.N) (y) :
    (outsAt0 m c t.val t.isLt).1 y = k0_pay2 (F := Ideal) (outsAt0 m c t.val t.isLt).2 (iblk m c 4 t) y := by
  by_cases h : t.val % 11 = 0
  · rw [outsAt0_A m c t h]
    frame_out
  · rw [outsAt0_B m c t h]
    frame_out
    simp only [read_unread_whole]
    rfl

/-- The result array after the run. -/
theorem result (c : Dev nD) : (dats m 0 c).arrAt 6 (cfgs 0).N = projected m c := by
  refine (dats m 0 c).arrAt_eq_of_covers 6 _ (by decide +kernel) fun t _ y => ?_
  blk_simp
  rw [after0_6, block m c t, show (outsAt0 m c t.val t.isLt).2 = rows m c ⟨11 * (t.val / 11), Pipeline.run_start_lt t⟩ from
    funext fun y => scratch m c t y]
  pointwise [rows, k0_pay1, k0_pay2, projected, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2]
  have e := places ⟨11 * (t.val / 11), Pipeline.run_start_lt t⟩
  blk_point [iblk, V, places t, e]

end Cert.FfnUpIdeal.Result

end
-- ==== Proof.Merge.lean ====
/- The merge of the four branches: each grid point takes one block of rows of every branch, multiplies it by one
   block of columns of that branch's weight, scales it by that branch's gates and adds the four.  The gates are four
   column ranges of one wide array, which the kernel reads through four windows and the reference cuts out by slices. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Result

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- The reference's result of the argument arrays that the kernel is given. -/
abbrev merged (c : Dev nD) : FVec Ideal S16384x2048 .bf16 :=
  val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- Where the blocks of branches, weights and result lie at point `t`. -/
theorem places : ∀ t : Fin cfg0.N, win0_0.index t = ![t.val / 4, 0] ∧ win0_1.index t = ![t.val / 4, 0]
    ∧ win0_2.index t = ![t.val / 4, 0] ∧ win0_3.index t = ![t.val / 4, 0]
    ∧ win0_4.index t = ![0, t.val % 4] ∧ win0_5.index t = ![0, t.val % 4] ∧ win0_6.index t = ![0, t.val % 4]
    ∧ win0_7.index t = ![0, t.val % 4] ∧ win0_12.index t = ![t.val / 4, t.val % 4] :=
  (by decide +kernel : ∀ t : Fin grid0.N, _)

/-- Where the four blocks of gates lie: after the 5120 columns of the branches' own inputs, one range per branch. -/
theorem gates : ∀ t : Fin cfg0.N, win0_8.index t = ![t.val / 4, 10 + t.val % 4]
    ∧ win0_9.index t = ![t.val / 4, 14 + t.val % 4] ∧ win0_10.index t = ![t.val / 4, 18 + t.val % 4]
    ∧ win0_11.index t = ![t.val / 4, 22 + t.val % 4] :=
  (by decide +kernel : ∀ t : Fin grid0.N, _)

/-- The result array after the run. -/
theorem result (c : Dev nD) : (dats m 0 c).arrAt 12 (cfgs 0).N = merged m c := by
  refine (dats m 0 c).arrAt_eq_of_covers 12 _ (by decide +kernel) fun t _ y => ?_
  blk_simp
  rw [after0_12]
  frame_out
  unfold_payloads
  pointwise [merged, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0]
  blk_point [iblk, V, places t, gates t]

end Cert.MergeIdeal.Result

end
-- ==== Proof.OutProj.lean ====
/- The output projection: each grid point multiplies one block of rows by one block of columns of the weight,
   scales by the gate's row and adds the residual block.  The blocks tile the result, so the result array is the
   reference's own expression of the call's arguments. -/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutProjIdeal.Result

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as one expression: the residual plus the gate times rows by weight. -/
abbrev residual (x : FVec Ideal S16384x2048 .bf16) (w : FVec Ideal S2048x2048 .f32)
    (h : FVec Ideal S16384x2048 .f32) (g : FVec Ideal S1x2048 .f32) : FVec Ideal S16384x2048 .f32 :=
  addf h (mulf (broadcastInDim Cert.OutProjRefIdeal.S16384x2048 ![0, 1] Cert.OutProjRefIdeal.Gen.bcast_S1x2048_S16384x2048_0_1 g)
    (Host.dotGeneral Cert.OutProjRefIdeal.dot_S16384x2048_S2048x2048_S16384x2048_1_0_0_1_n_n none
      (extf .f32 x Cert.OutProjRefIdeal.Gen.bitsLt_bf16_f32) w))

/-- Where each window's block lies at point `t`: the rows move every four points, the columns cycle. -/
theorem places : ∀ t : Fin cfg0.N, win0_0.index t = ![t.val / 4, 0] ∧ win0_1.index t = ![0, t.val % 4]
    ∧ win0_2.index t = ![t.val / 4, t.val % 4] ∧ win0_3.index t = ![0, t.val % 4] ∧ win0_4.index t = ![t.val / 4, t.val % 4] :=
  (by decide +kernel : ∀ t : Fin grid0.N, _)

/-- One entry of the block that point `t` computes is the reference's entry at its place in the array. -/
theorem entry (c : Dev nD) (t : Fin cfg0.N) (y) :
    k0_pay1 (iblk m c 0 t) (iblk m c 1 t) (iblk m c 2 t) (iblk m c 3 t) y
    = residual (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, residual]
  blk_point [iblk, V, places t]

/-- The result array after the run. -/
theorem result (c : Dev nD) : (dats m 0 c).arrAt 4 (cfgs 0).N
    = residual (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact entry m c t y

end Cert.OutProjIdeal.Result

end
-- ==== Proof.FfnDown.lean ====
/- The feed-forward down projection: each grid point multiplies one block of rows by one block of columns of the weight,
   scales by the gate's row and adds the residual block.  The blocks tile the result, so the result array is the
   reference's own expression of the call's arguments. -/
module

public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise

@[expose] public section

set_option maxRecDepth 16384

noncomputable section

namespace Cert.FfnDownIdeal.Result

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- The reference's result as one expression: the residual plus the gate times rows by weight. -/
abbrev residual (x : FVec Ideal S16384x5632 .bf16) (w : FVec Ideal S5632x2048 .f32)
    (h : FVec Ideal S16384x2048 .f32) (g : FVec Ideal S1x2048 .f32) : FVec Ideal S16384x2048 .f32 :=
  addf h (mulf (broadcastInDim Cert.FfnDownRefIdeal.S16384x2048 ![0, 1] Cert.FfnDownRefIdeal.Gen.bcast_S1x2048_S16384x2048_0_1 g)
    (Host.dotGeneral Cert.FfnDownRefIdeal.dot_S16384x5632_S5632x2048_S16384x2048_1_0_0_1_n_n none
      (extf .f32 x Cert.FfnDownRefIdeal.Gen.bitsLt_bf16_f32) w))

/-- Where each window's block lies at point `t`: the rows move every four points, the columns cycle. -/
theorem places : ∀ t : Fin cfg0.N, win0_0.index t = ![t.val / 4, 0] ∧ win0_1.index t = ![0, t.val % 4]
    ∧ win0_2.index t = ![t.val / 4, t.val % 4] ∧ win0_3.index t = ![0, t.val % 4] ∧ win0_4.index t = ![t.val / 4, t.val % 4] :=
  (by decide +kernel : ∀ t : Fin grid0.N, _)

/-- One entry of the block that point `t` computes is the reference's entry at its place in the array. -/
theorem entry (c : Dev nD) (t : Fin cfg0.N) (y) :
    k0_pay1 (iblk m c 0 t) (iblk m c 1 t) (iblk m c 2 t) (iblk m c 3 t) y
    = residual (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, residual]
  blk_point [iblk, V, places t]

/-- The result array after the run. -/
theorem result (c : Dev nD) : (dats m 0 c).arrAt 4 (cfgs 0).N
    = residual (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact entry m c t y

end Cert.FfnDownIdeal.Result

end
-- ==== Proof.Projections.lean ====
/- The equations of the five projections: each kernel's run and its reference's run end with the same array, the one
   that the kernel's module computes. -/
module

public import proofs.«01_k».proof.Defs
public import proofs.«01_k».proof.Proof.Gen.InProjIdeal.Frame
public import proofs.«01_k».proof.Proof.Gen.InProjRefIdeal.Run
public import proofs.«01_k».proof.Proof.InProj
public import proofs.«01_k».proof.Proof.Gen.FfnUpIdeal.Frame
public import proofs.«01_k».proof.Proof.Gen.FfnUpRefIdeal.Run
public import proofs.«01_k».proof.Proof.FfnUp
public import proofs.«01_k».proof.Proof.Gen.MergeIdeal.Frame
public import proofs.«01_k».proof.Proof.Gen.MergeRefIdeal.Run
public import proofs.«01_k».proof.Proof.Merge
public import proofs.«01_k».proof.Proof.Gen.OutProjIdeal.Frame
public import proofs.«01_k».proof.Proof.Gen.OutProjRefIdeal.Run
public import proofs.«01_k».proof.Proof.OutProj
public import proofs.«01_k».proof.Proof.Gen.FfnDownIdeal.Frame
public import proofs.«01_k».proof.Proof.Gen.FfnDownRefIdeal.Run
public import proofs.«01_k».proof.Proof.FfnDown
public import Idealize.ShloMosaic.Lib.Claim

@[expose] public section

set_option maxRecDepth 16384

noncomputable section

namespace Cert.Projections

open Idealize.ShloMosaic Idealize.SL.Sem

/-- The input projection with its gate: the kernel and the reference end with the same result. -/
theorem inProj : Cert.algebraic_InProjIdeal_InProjRefIdeal := by
  pair_intro
  · run_from Cert.InProjIdeal.Gen.run_main m g
  · run_from Cert.InProjRefIdeal.Value.run m' g'
    obtain ⟨_, _, _, _, h4, h5, h6⟩ := hagree c
    rw [Cert.InProjIdeal.Result.result m c, Cert.InProjIdeal.Result.projected, ← h4, ← h5, ← h6]
    rfl

/-- The feed-forward up projection: the kernel and the reference end with the same result. -/
theorem ffnUp : Cert.algebraic_FfnUpIdeal_FfnUpRefIdeal := by
  pair_intro
  · run_from Cert.FfnUpIdeal.Gen.run_main m g
  · run_from Cert.FfnUpRefIdeal.Value.run m' g'
    exact (Cert.FfnUpIdeal.Result.result m c).symm

/-- The gated merge of the four branches: the kernel and the reference end with the same result. -/
theorem merge : Cert.algebraic_MergeIdeal_MergeRefIdeal := by
  pair_intro
  · run_from Cert.MergeIdeal.Gen.run_main m g
  · run_from Cert.MergeRefIdeal.Value.run m' g'
    exact (Cert.MergeIdeal.Result.result m c).symm

/-- The output projection with its residual: the kernel and the reference end with the same result. -/
theorem outProj : Cert.algebraic_OutProjIdeal_OutProjRefIdeal := by
  pair_intro
  · run_from Cert.OutProjIdeal.Gen.run_main m g
  · run_from Cert.OutProjRefIdeal.Value.run m' g'
    exact (Cert.OutProjIdeal.Result.result m c).symm

/-- The feed-forward down projection with its residual: the kernel and the reference end with the same result. -/
theorem ffnDown : Cert.algebraic_FfnDownIdeal_FfnDownRefIdeal := by
  pair_intro
  · run_from Cert.FfnDownIdeal.Gen.run_main m g
  · run_from Cert.FfnDownRefIdeal.Value.run m' g'
    exact (Cert.FfnDownIdeal.Result.result m c).symm

end Cert.Projections

end
-- ==== Proof.HeadKeys.Tables.lean ====
/- The keys' rotation tables: what the host writes before the kernel runs is the reference's cosines, twice, and its
   sines, first negated. -/
module

public import proofs.«01_k».proof.Proof.Gen.HeadKeysIdeal.Frame
public import proofs.«01_k».proof.Proof.Gen.HeadKeysRefIdeal.Read
public import Idealize.ShloMosaic.Lib.StableHlo.RunRead
public import Idealize.ShloMosaic.Lib.Claim

@[expose] public section

set_option maxRecDepth 16384

noncomputable section

namespace Cert.HeadKeysIdeal.Result

open Cert.HeadKeysIdeal Cert.HeadKeysIdeal.Gen Idealize.ShloMosaic Idealize.ShloMosaic.TcCoe Idealize.SL.Sem
open Cert.HeadKeysRefIdeal.Read

variable (m : (ℓ : Loc nD τ sig) → Buf (Elt Ideal) ℓ)

/-- Two arrays side by side. -/
abbrev beside (a b : FVec Ideal S16384x64 .f32) : FVec Ideal S16384x128 .f32 :=
  concatenate S16384x128 1 [⟨S16384x64, a⟩, ⟨S16384x64, b⟩] concatenates_S16384x64_S16384x64_S16384x128_d1

/-- The angles' two halves side by side. -/
abbrev angles (a b : FVec Ideal S16384x32 .f32) : FVec Ideal S16384x64 .f32 :=
  concatenate S16384x64 1 [⟨S16384x32, a⟩, ⟨S16384x32, b⟩] concatenates_S16384x32_S16384x32_S16384x64_d1

/-- The first table. -/
theorem cos_table (c : Dev nD) : (V m c main_v25 : FVec Ideal S16384x128 .f32)
    = beside (val_main_v25 (F := Ideal)) (val_main_v25 (F := Ideal)) := by
  after_reads_simp
  refine congrArg (fun a => beside a a) ?_
  after_reads_simp
  refine congrArg (fun a : FVec Ideal S16384x64 .f32 => (Host.cos a : FVec Ideal S16384x64 .f32)) (congrArg₂ angles ?_ ?_)
  · after_reads_simp
    rfl
  · after_reads_simp
    rfl

set_option maxHeartbeats 1000000 in
/-- The second table. -/
theorem sin_table (c : Dev nD) : (V m c main_v27 : FVec Ideal S16384x128 .f32)
    = beside (Host.negf (val_main_v27 (F := Ideal)) : FVec Ideal S16384x64 .f32) (val_main_v27 (F := Ideal)) := by
  after_reads_simp
  refine congrArg₂ beside ?_ ?_
  all_goals after_reads_simp
  · refine congrArg (fun a : FVec Ideal S16384x64 .f32 => (Host.negf (Host.sin a : FVec Ideal S16384x64 .f32) :
      FVec Ideal S16384x64 .f32)) (congrArg₂ angles ?_ ?_)
    all_goals after_reads_simp
    all_goals rfl
  · refine congrArg (fun a : FVec Ideal S16384x64 .f32 => (Host.sin a : FVec Ideal S16384x64 .f32)) (congrArg₂ angles ?_ ?_)
    all_goals after_reads_simp
    all_goals rfl

/-- The gain, as one row. -/
theorem gain_row (c : Dev nD) : (V m c main_v0 : FVec Ideal S1x128 .f32)
    = shapeCast S1x128 (m ((c : Thread nD τ).loc main_arg1)) shapeCasts_S128_S1x128 := by
  entry_read
  rfl

end Cert.HeadKeysIdeal.Result

end
-- ==== Proof.HeadKeys.lean ====
/- The keys' preparation: each grid point takes a block of rows of the two heads, normalizes each head's rows by their root
   mean square and the gain, rotates them by the row's position and stores them heads first. -/
module

public import proofs.«01_k».proof.Proof.HeadKeys.Tables
public import Idealize.ShloMosaic.Lib.Pipeline.ValueKit
public import Idealize.ShloMosaic.Lib.Pointwise

@[expose] public section

set_option maxRecDepth 16384

noncomputable section

namespace Cert.HeadKeysIdeal.Result

open Cert.HeadKeysIdeal Cert.HeadKeysIdeal.Gen Idealize.ShloMosaic Idealize.ShloMosaic.TcCoe Idealize.SL.Sem
open Idealize.ShloMosaic.Pipeline (Dat)
open Cert.HeadKeysRefIdeal.Read

variable (m : (ℓ : Loc nD τ sig) → Buf (Elt Ideal) ℓ)

/-- Where the blocks of point `t` lie: block `t` of rows and of the tables, both heads. -/
theorem places : ∀ t : Fin cfg0.N, win0_0.index t = ![t.val, 18]
    ∧ win0_1.index t = ![0, 0] ∧ win0_2.index t = ![t.val, 0] ∧ win0_3.index t = ![t.val, 0]
    ∧ win0_4.index t = ![0, t.val, 0] :=
  (by decide +kernel : ∀ t : Fin grid0.N, _)

/-- One row's factor: the reciprocal root of the mean square of the 128 numbers `f`, and of the small constant. -/
abbrev factor (f : Fin 128 → EReal) : EReal :=
  Ideal.rsqrt (Ideal.div (∑ j, f j * f j) (Ideal.ofBits .f32 1124073472#32) + Ideal.ofBits .f32 897988541#32)

/-- The reference's normalized keys at row `r`, head `h` and component `j`. -/
abbrev scaled (X : FVec Ideal S16384x13312 .bf16) (G : FVec Ideal S128 .f32) (r : Fin 16384) (h : Fin 2) (j : Fin 128) : EReal :=
  val_main_v42 (F := Ideal) X G (ix4 0 r h j)

/-- The reference's result at a place: a rotation of two components, written by the halves. -/
theorem rotated (X : FVec Ideal S16384x13312 .bf16) (G : FVec Ideal S128 .f32) (i : S2x16384x128.Idx) :
    val_main_v58 (F := Ideal) X G i
    = (scaled X G (i 1) (i 0) (i 2) * beside (val_main_v25 (F := Ideal)) (val_main_v25 (F := Ideal)) (ix2 (i 1) (i 2))
        + scaled X G (i 1) (i 0) ⟨((i 2).val + 128 - 64) % 128, Nat.mod_lt _ (by decide)⟩
          * beside (Host.negf (val_main_v27 (F := Ideal)) : FVec Ideal S16384x64 .f32) (val_main_v27 (F := Ideal))
            (ix2 (i 1) (i 2))) := by
  have h1 : (i 2).val < 128 := (i 2).isLt
  pointwise [val_main_v58, val_main_v57, val_main_v56, val_main_v55, val_main_v54, val_main_v53,
    val_main_v52, val_main_v51, val_main_v50, val_main_v49, val_main_v48, val_main_v47, val_main_v46, val_main_v45,
    val_main_v44, val_main_v43, val_main_v28, val_main_v26, beside, scaled]
  by_cases h : (i 2).val < 64
  · have e : (⟨((i 2).val + 128 - 64) % 128, Nat.mod_lt _ (by decide)⟩ : Fin 128) = ⟨64 + (i 2).val, by omega⟩ :=
      Fin.ext (by show ((i 2).val + 128 - 64) % 128 = 64 + (i 2).val; omega)
    simp only [h, e, dif_pos, mul_neg, sub_eq_add_neg]
  · have e : (⟨((i 2).val + 128 - 64) % 128, Nat.mod_lt _ (by decide)⟩ : Fin 128) = ⟨(i 2).val - 64, by omega⟩ :=
      Fin.ext (by show ((i 2).val + 128 - 64) % 128 = (i 2).val - 64; omega)
    have e' : (⟨64 + ((i 2).val - 64), by omega⟩ : Fin 128) = i 2 :=
      Fin.ext (by show 64 + ((i 2).val - 64) = (i 2).val; omega)
    simp only [h, e, dif_neg, not_false_eq_true]
    rw [e', add_comm]

/-- The second head's block is computed as the first's is. -/
theorem same (x : FVec Ideal S512x128 .bf16) (g : FVec Ideal S1x128 .f32) (cs sn : FVec Ideal S512x128 .f32) :
    k0_pay1 (F := Ideal) (k0_pay3 x) (k0_pay4 x) g cs sn = k0_pay2 (F := Ideal) x g cs sn := rfl

/-- A block's result is the array's: the rows of head `h` from row `b` on, the gain and the two tables' rows. -/
theorem block (X : FVec Ideal S16384x13312 .bf16) (G : FVec Ideal S128 .f32) {b h : Nat}
    (x : FVec Ideal S512x128 .bf16) (g : FVec Ideal S1x128 .f32) (cs sn : FVec Ideal S512x128 .f32)
    (C S : FVec Ideal S16384x128 .f32)
    (hx : ∀ (r : S512x128.Idx) (k : S16384x13312.Idx), (k 0).val = b + (r 0).val →
      (k 1).val = 4608 + (h * 128 + (r 1).val) → x r = X k)
    (hg : ∀ (r : S1x128.Idx) (k : S128.Idx), (k 0).val = (r 1).val → g r = G k)
    (y : S1x512x128.Idx) (i : S2x16384x128.Idx) (i0 : (i 0).val = h) (i2 : (i 2).val = (y 2).val)
    (i1 : (i 1).val = b + (y 1).val)
    (hC : cs (ix2 (y 1) (y 2)) = C (ix2 (i 1) (i 2))) (hS : sn (ix2 (y 1) (y 2)) = S (ix2 (i 1) (i 2))) :
    k0_pay2 (F := Ideal) x g cs sn y
    = (scaled X G (i 1) (i 0) (i 2) * C (ix2 (i 1) (i 2))
        + scaled X G (i 1) (i 0) ⟨((i 2).val + 128 - 64) % 128, Nat.mod_lt _ (by decide)⟩
          * S (ix2 (i 1) (i 2))) := by
  have norm : ∀ j j' : Fin 128, j.val = j'.val →
      x (ix2 (y 1) j) * factor (fun k => x (ix2 (y 1) k)) * g (ix2 0 j) = scaled X G (i 1) (i 0) j' := by
    intro j j' e
    have elt : ∀ k k' : Fin 128, k.val = k'.val →
        x (ix2 (y 1) k) = X (ix2 (i 1) ⟨4608 + ((i 0).val * 128 + k'.val), by have := (i 0).isLt; change (i 0).val < 2 at this; omega⟩) := by
      intro k k' e
      exact hx _ _ i1 (by show 4608 + ((i 0).val * 128 + k'.val) = 4608 + (h * 128 + k.val); rw [i0, e])
    have fac : factor (fun k => x (ix2 (y 1) k)) = factor (fun k => X (ix2 (i 1) ⟨4608 + ((i 0).val * 128 + k.val), by have := (i 0).isLt; change (i 0).val < 2 at this; omega⟩)) :=
      congrArg factor (funext fun k => elt k k rfl)
    rw [elt j j' e, fac, hg (ix2 0 j) (ix1 j') e.symm]
    pointwise [scaled, factor, val_main_v42, val_main_v41, val_main_v40, val_main_v39, val_main_v38, val_main_v37, val_main_v36, val_main_v35,
      val_main_v34, val_main_v33, val_main_v32, val_main_v31, val_main_v30, val_main_v29, val_main_v2, val_main_v1, val_main_v0,
      val_main_cst_2, val_main_cst_3, val_main_cst_4]
  pointwise [k0_pay2]
  rw [← hC, ← hS, ← norm (y 2) (i 2) i2.symm,
    ← norm ⟨((y 2).val + 128 - 64) % 128, Nat.mod_lt _ (by decide)⟩ ⟨((i 2).val + 128 - 64) % 128, Nat.mod_lt _ (by decide)⟩
      (by show ((y 2).val + 128 - 64) % 128 = ((i 2).val + 128 - 64) % 128; rw [i2])]

/-- The keys' block: 512 rows of two heads. -/
theorem win0 (c : Dev nD) (t : Fin cfg0.N) (r : S512x256.Idx) (k : S16384x13312.Idx)
    (h : (k 0).val = t.val * 512 + (r 0).val) (h' : (k 1).val = 4608 + (r 1).val) :
    iblk m c 0 t r = m ((c : Thread nD τ).loc main_arg0) k := by
  blk_ext [iblk, V, places t]

/-- The gain. -/
theorem win1 (c : Dev nD) (t : Fin cfg0.N) (r : S1x128.Idx) (k : S128.Idx) (h : (k 0).val = (r 1).val) :
    iblk m c 1 t r = m ((c : Thread nD τ).loc main_arg1) k := by
  have e : iblk m c 1 t r = (V m c main_v0 : FVec Ideal S1x128 .f32) (ix2 0 (r 1)) := by
    unfold iblk
    blk_ext [places t]
  rw [e, gain_row]
  pointwise []
  refine congrArg _ (funext fun a => Fin.ext ?_)
  match a with
  | ⟨0, _⟩ => exact h.symm

/-- The first table's rows. -/
theorem win2 (c : Dev nD) (t : Fin cfg0.N) (r : S512x128.Idx) (k : S16384x128.Idx)
    (h : (k 0).val = t.val * 512 + (r 0).val) (h' : (k 1).val = (r 1).val) :
    iblk m c 2 t r = beside (val_main_v25 (F := Ideal)) (val_main_v25 (F := Ideal)) k := by
  rw [← cos_table m c]
  unfold iblk
  blk_ext [places t]

/-- The second table's rows. -/
theorem win3 (c : Dev nD) (t : Fin cfg0.N) (r : S512x128.Idx) (k : S16384x128.Idx)
    (h : (k 0).val = t.val * 512 + (r 0).val) (h' : (k 1).val = (r 1).val) :
    iblk m c 3 t r
    = beside (Host.negf (val_main_v27 (F := Ideal)) : FVec Ideal S16384x64 .f32) (val_main_v27 (F := Ideal)) k := by
  rw [← sin_table m c]
  unfold iblk
  blk_ext [places t]

/-- The reference's result of the argument arrays that the kernel is given. -/
abbrev keys (c : Dev nD) : FVec Ideal S2x16384x128 .bf16 :=
  val_main_v58 (F := Ideal) (m ((c : Thread nD τ).loc main_arg0)) (m ((c : Thread nD τ).loc main_arg1))

/-- One head of a point: the point's rows of head `a` of its pair, however they are loaded, lead to the reference's. -/
theorem head (c : Dev nD) (t : Fin cfg0.N) (a : Nat) (x : FVec Ideal S512x128 .bf16)
    (hx : ∀ (r : S512x128.Idx) (k : S16384x13312.Idx), (k 0).val = t.val * 512 + (r 0).val →
      (k 1).val = 4608 + (a * 128 + (r 1).val) → x r = m ((c : Thread nD τ).loc main_arg0) k)
    (y : S1x512x128.Idx) (i : S2x16384x128.Idx) (i0 : (i 0).val = a) (i2 : (i 2).val = (y 2).val)
    (i1 : (i 1).val = t.val * 512 + (y 1).val) :
    k0_pay2 (F := Ideal) x (View.ld (iblk m c 1 t) r0_1) (View.ld (iblk m c 2 t) r0_2) (View.ld (iblk m c 3 t) r0_2) y
    = keys m c i := by
  refine (block (m ((c : Thread nD τ).loc main_arg0)) (m ((c : Thread nD τ).loc main_arg1)) x _ _ _
    (beside (val_main_v25 (F := Ideal)) (val_main_v25 (F := Ideal)))
    (beside (Host.negf (val_main_v27 (F := Ideal)) : FVec Ideal S16384x64 .f32) (val_main_v27 (F := Ideal)))
    hx ?_ y i i0 i2 i1 ?_ ?_).trans (rotated _ _ i).symm
  · intro r k h
    pointwise []
    exact win1 m c t _ k h
  · have e : View.ld (iblk m c 2 t) r0_2 (ix2 (y 1) (y 2)) = iblk m c 2 t (ix2 (y 1) (y 2)) := by
      pointwise []
    exact e.trans (win2 m c t (ix2 (y 1) (y 2)) (ix2 (i 1) (i 2)) i1 i2)
  · have e : View.ld (iblk m c 3 t) r0_2 (ix2 (y 1) (y 2)) = iblk m c 3 t (ix2 (y 1) (y 2)) := by
      pointwise []
    exact e.trans (win3 m c t (ix2 (y 1) (y 2)) (ix2 (i 1) (i 2)) i1 i2)

/-- The result array after the run. -/
theorem result (c : Dev nD) : (dats m 0 c).arrAt 4 (cfgs 0).N = keys m c := by
  refine (dats m 0 c).arrAt_eq_of_covers 4 _ (by decide +kernel) fun t _ y => ?_
  blk_simp
  rw [after0_4]
  generalize hi : ((View.whole main_v28).slice (win0_4.rect t)).emb y = i
  have i0 : (i 0).val = (y 0).val := by rw [← hi]; blk_simp [places t]
  have i2 : (i 2).val = (y 2).val := by rw [← hi]; blk_simp [places t]
  have i1 : (i 1).val = t.val * 512 + (y 1).val := by rw [← hi]; blk_simp [places t]
  show out0_4 _ _ _ _ _ = _
  unfold out0_4
  rw [same]
  canon_tiles x h
  · refine head m c t 1 _ ?_ x i (by omega) (by omega) (by omega)
    intro r k h h'
    pointwise []
    exact win0 m c t _ k h (by show (k 1).val = 4608 + ((128 + (r 1).val)); omega)
  · refine head m c t 0 _ ?_ x i (by omega) (by omega) (by omega)
    intro r k h h'
    pointwise []
    exact win0 m c t _ k h (by show (k 1).val = 4608 + (r 1).val; omega)

end Cert.HeadKeysIdeal.Result

end
-- ==== Proof.HeadValues.lean ====
/- The values' preparation: each grid point takes a block of rows of the two heads and stores each head transposed. -/
module

public import proofs.«01_k».proof.Proof.Gen.HeadValuesIdeal.Value
public import proofs.«01_k».proof.Proof.Gen.HeadValuesIdeal.Frame
public import proofs.«01_k».proof.Proof.Gen.HeadValuesRefIdeal.Read
public import Idealize.ShloMosaic.Lib.Pipeline.ValueKit
public import Idealize.ShloMosaic.Lib.Pointwise

@[expose] public section

set_option maxRecDepth 16384

noncomputable section

namespace Cert.HeadValuesIdeal.Result

open Cert.HeadValuesIdeal Cert.HeadValuesIdeal.Gen Idealize.ShloMosaic Idealize.ShloMosaic.TcCoe Idealize.SL.Sem
open Idealize.ShloMosaic.Pipeline (Dat)
open Cert.HeadValuesRefIdeal.Read

variable (m : (ℓ : Loc nD τ sig) → Buf (Elt Ideal) ℓ)

/-- Where the blocks of point `t` lie: block `t` of rows, both heads. -/
theorem places : ∀ t : Fin cfg0.N, win0_0.index t = ![t.val, 19] ∧ win0_1.index t = ![0, 0, t.val] :=
  (by decide +kernel : ∀ t : Fin grid0.N, _)

/-- The values' block: 512 rows of the two heads. -/
theorem win0 (c : Dev nD) (t : Fin cfg0.N) (r : S512x256.Idx) (k : S16384x13312.Idx)
    (h : (k 0).val = t.val * 512 + (r 0).val) (h' : (k 1).val = 4864 + (r 1).val) :
    iblk m c 0 t r = m ((c : Thread nD τ).loc main_arg0) k := by
  blk_ext [iblk, V, places t]

/-- The second head's block is computed as the first's is. -/
theorem same (x : FVec Ideal S512x128 .bf16) : k0_pay2 (F := Ideal) x = k0_pay1 (F := Ideal) x := rfl

/-- A block's result is the array's: the rows of head `h` from row `b` on, transposed. -/
theorem block (X : FVec Ideal S16384x13312 .bf16) {b h : Nat} (x : FVec Ideal S512x128 .bf16)
    (hx : ∀ (r : S512x128.Idx) (k : S16384x13312.Idx), (k 0).val = b + (r 0).val →
      (k 1).val = 4864 + (h * 128 + (r 1).val) → x r = X k)
    (y : S1x128x512.Idx) (i : S2x128x16384.Idx) (i0 : (i 0).val = h) (i1 : (i 1).val = (y 1).val)
    (i2 : (i 2).val = b + (y 2).val) : k0_pay1 (F := Ideal) x y = val_main_v4 (F := Ideal) X i := by
  pointwise [k0_pay1, val_main_v4, val_main_v3, val_main_v2, val_main_v1, val_main_v0]
  exact hx _ _ i2 (by show 4864 + ((i 0).val * 128 + (i 1).val) = 4864 + (h * 128 + (y 1).val); rw [i0, i1])

/-- The reference's result of the argument array that the kernel is given. -/
abbrev values (c : Dev nD) : FVec Ideal S2x128x16384 .bf16 :=
  val_main_v4 (F := Ideal) (m ((c : Thread nD τ).loc main_arg0))

/-- The result array after the run. -/
theorem result (c : Dev nD) : (dats m 0 c).arrAt 1 (cfgs 0).N = values m c := by
  refine (dats m 0 c).arrAt_eq_of_covers 1 _ (by decide +kernel) fun t _ y => ?_
  blk_simp
  rw [after0_1]
  generalize hi : ((View.whole main_v0).slice (win0_1.rect t)).emb y = i
  have i0 : (i 0).val = (y 0).val := by rw [← hi]; blk_simp [places t]
  have i1 : (i 1).val = (y 1).val := by rw [← hi]; blk_simp [places t]
  have i2 : (i 2).val = t.val * 512 + (y 2).val := by rw [← hi]; blk_simp [places t]
  show out0_1 _ _ = _
  unfold out0_1
  rw [same]
  canon_tiles x h
  · refine block (m ((c : Thread nD τ).loc main_arg0)) (b := t.val * 512) (h := 1) _ ?_ x i (by omega) (by omega) (by omega)
    intro r k h h'
    pointwise []
    exact win0 m c t _ k h (by show (k 1).val = 4864 + (128 + (r 1).val); omega)
  · refine block (m ((c : Thread nD τ).loc main_arg0)) (b := t.val * 512) (h := 0) _ ?_ x i (by omega) (by omega) (by omega)
    intro r k h h'
    pointwise []
    exact win0 m c t _ k h (by show (k 1).val = 4864 + (r 1).val; omega)

end Cert.HeadValuesIdeal.Result

end
-- ==== Proof.Operands.lean ====
/- The equations of the preparation of the attention's keys and values: each kernel's result is its reference's. -/
module

public import proofs.«01_k».proof.Defs
public import proofs.«01_k».proof.Proof.HeadKeys
public import proofs.«01_k».proof.Proof.HeadValues
public import proofs.«01_k».proof.Proof.Gen.HeadKeysIdeal.Value
public import Idealize.ShloMosaic.Lib.Claim

@[expose] public section

set_option maxRecDepth 16384

noncomputable section

namespace Cert.Operands

open Idealize.ShloMosaic Idealize.SL.Sem

/-- The keys' preparation: the kernel and the reference end with the same result. -/
theorem headKeys : Cert.algebraic_HeadKeysIdeal_HeadKeysRefIdeal := by
  pair_intro
  · exact Cert.HeadKeysIdeal.Value.run_blocks m g
  · refine (θ_run _ _ _).mono (fun r h c => ?_) (Cert.HeadKeysRefIdeal.Value.run m' g')
    obtain ⟨h0, h1⟩ := hagree c
    refine ⟨(h c).1.trans ?_, (h c).2⟩
    rw [Cert.HeadKeysRefIdeal.Read.val_main_v58_eq, h0, h1]
    exact (Cert.HeadKeysIdeal.Result.result m c).symm

/-- The values' preparation: the kernel and the reference end with the same result. -/
theorem headValues : Cert.algebraic_HeadValuesIdeal_HeadValuesRefIdeal := by
  pair_intro
  · run_from Cert.HeadValuesIdeal.Gen.run_main m g
  · refine (θ_run _ _ _).mono (fun r h c => ?_) (Cert.HeadValuesRefIdeal.Value.run m' g')
    have h0 := hagree c
    refine ⟨(h c).1.trans ?_, (h c).2⟩
    rw [Cert.HeadValuesRefIdeal.Read.val_main_v4_eq, h0]
    exact (Cert.HeadValuesIdeal.Result.result m c).symm

end Cert.Operands

end
-- ==== Proof.Neighbours.lean ====
/- The rows next to a block of a convolution: a block of 1024 rows, the row above its first row and the row below its
   last row, against the array padded by one zero row at each end. -/
module

public import Idealize.ShloMosaic.Lib.Pointwise
public import Idealize.ShloMosaic.Lib.WordCmp

@[expose] public section

noncomputable section

namespace Cert.Neighbours

open Idealize.ShloMosaic

variable {α : Type}

/-- The integer zero, converted, is the number zero. -/
theorem zero_word : (FloatOps.sitofp .f32 0#32 : Ideal .f32) = 0 := by
  show ((((0#32 : BitVec 32).toInt : ℤ) : ℝ) : EReal) = 0
  simp

/-- The kernel's choice of the row above row `r` of block `b`, without words. -/
theorem above {r b : Nat} (hr : r < 1024) (hb : b < 16) (p z x : α) :
    Scalar.select (IntOp.cmpi .eq (BitVec.ofNat 32 r) 0#32)
      (Scalar.select (Scalar.cmpi .sgt (BitVec.ofNat 32 b) 0#32) p z) x
    = if r = 0 then (if b = 0 then z else p) else x := by
  have h1 : IntOp.cmpi .eq (BitVec.ofNat 32 r) 0#32 = BitVec.ofBool (decide (r = 0)) :=
    WordCmp.cmpi_eq_ofNat (by omega) (by omega)
  have h2 : Scalar.cmpi .sgt (BitVec.ofNat 32 b) 0#32 = BitVec.ofBool (decide (0 < b)) :=
    WordCmp.cmpi_sgt_ofNat (by omega) (by omega)
  rw [h1, h2]
  by_cases hr0 : r = 0 <;> by_cases hb0 : b = 0 <;> simp [Scalar.select, hr0, hb0, Nat.pos_iff_ne_zero]

/-- The kernel's choice of the row below row `r` of block `b`, without words. -/
theorem below {r b : Nat} (hr : r < 1024) (hb : b < 16) (n z x : α) :
    Scalar.select (IntOp.cmpi .eq (BitVec.ofNat 32 r) 1023#32)
      (Scalar.select (Scalar.cmpi .slt (BitVec.ofNat 32 b) 15#32) n z) x
    = if r = 1023 then (if b < 15 then n else z) else x := by
  have h1 : IntOp.cmpi .eq (BitVec.ofNat 32 r) 1023#32 = BitVec.ofBool (decide (r = 1023)) :=
    WordCmp.cmpi_eq_ofNat (by omega) (by omega)
  have h2 : Scalar.cmpi .slt (BitVec.ofNat 32 b) 15#32 = BitVec.ofBool (decide (b < 15)) :=
    WordCmp.cmpi_slt_ofNat (by omega) (by omega)
  rw [h1, h2]
  by_cases hr0 : r = 1023 <;> by_cases hb0 : b < 15 <;> simp [Scalar.select, hr0, hb0]

end Cert.Neighbours

end
-- ==== Proof.FfnAct.lean ====
/- The feed-forward activation: each grid point convolves one block of rows of the two halves over three neighbouring
   rows, the rows just outside the block coming from two further windows, and multiplies the one half's activation by the
   other half. -/
module

public import proofs.«01_k».proof.Proof.Gen.FfnActIdeal.Value
public import proofs.«01_k».proof.Proof.Gen.FfnActRefIdeal.Read
public import proofs.«01_k».proof.Proof.Neighbours
public import Idealize.ShloMosaic.Lib.Pipeline.ValueKit
public import Idealize.ShloMosaic.Lib.Pointwise

@[expose] public section

set_option maxRecDepth 16384

noncomputable section

namespace Cert.FfnActIdeal.Result

open Cert.FfnActIdeal Cert.FfnActIdeal.Gen Idealize.ShloMosaic Idealize.ShloMosaic.TcCoe Idealize.SL.Sem
open Idealize.ShloMosaic.Pipeline (Dat)
open Cert.FfnActRefIdeal.Read

variable (m : (ℓ : Loc nD τ sig) → Buf (Elt Ideal) ℓ)

/-- Where the blocks of point `t` lie. -/
theorem places : ∀ t : Fin cfg0.N, win0_0.index t = ![t.val / 11, t.val % 11]
    ∧ win0_1.index t = ![t.val / 11 * 64 - 1, t.val % 11]
    ∧ win0_2.index t = ![min (t.val / 11 * 64 + 64) 1023, t.val % 11]
    ∧ win0_3.index t = ![t.val / 11, 11 + t.val % 11]
    ∧ win0_4.index t = ![t.val / 11 * 64 - 1, 11 + t.val % 11]
    ∧ win0_5.index t = ![min (t.val / 11 * 64 + 64) 1023, 11 + t.val % 11]
    ∧ win0_6.index t = ![0, t.val % 11] ∧ win0_7.index t = ![0, 11 + t.val % 11]
    ∧ win0_8.index t = ![t.val / 11, t.val % 11] :=
  (by decide +kernel : ∀ t : Fin grid0.N, _)

/-- The point's block of rows. -/
theorem rows : ∀ t : Fin cfg0.N, (grid0.coords t 0).val = t.val / 11 :=
  (by decide +kernel : ∀ t : Fin grid0.N, _)

/-- The reference's convolution at a place: three rows by three weights, zero outside the array. -/
theorem conv_ref (x : FVec Ideal S16384x11264 .bf16) (w : FVec Ideal S3x11264 .f32) (i) :
    val_main_v22 (F := Ideal) x w i
    = (if h : 1 ≤ (i 1).val ∧ (i 1).val - 1 < 16384 then x (ix2 ⟨(i 1).val - 1, h.2⟩ (i 2)) else 0) * w (ix2 0 (i 2))
      + x (ix2 (i 1) (i 2)) * w (ix2 1 (i 2))
      + (if h : 1 ≤ 2 + (i 1).val ∧ 2 + (i 1).val - 1 < 16384 then x (ix2 ⟨2 + (i 1).val - 1, h.2⟩ (i 2)) else 0)
        * w (ix2 2 (i 2)) := by
  pointwise [val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_call0_v0, val_main_c]
  rw [show (FloatOps.sitofp FTy.f32 0#32 : Ideal .f32) = 0 from Cert.Neighbours.zero_word]

/-- A block's convolution is the array's: block `b` of rows and block `e` of columns of the array, its two neighbouring
    rows where there are any, and the weights of its columns. -/
theorem conv (X : FVec Ideal S16384x11264 .bf16) (W : FVec Ideal S3x11264 .f32) {b e : Nat} (hb : b < 16)
    (p n : FVec Ideal S16x512 .bf16) (x : FVec Ideal S1024x512 .bf16) (w : FVec Ideal S3x512 .f32)
    (hx : ∀ (r : S1024x512.Idx) (k : S16384x11264.Idx), (k 0).val = b * 1024 + (r 0).val →
      (k 1).val = e * 512 + (r 1).val → x r = X k)
    (hp : ∀ (r : S16x512.Idx) (k : S16384x11264.Idx), (k 0).val + 16 = b * 1024 + (r 0).val →
      (k 1).val = e * 512 + (r 1).val → p r = X k)
    (hn : ∀ (r : S16x512.Idx) (k : S16384x11264.Idx), (k 0).val = b * 1024 + 1024 + (r 0).val →
      (k 1).val = e * 512 + (r 1).val → n r = X k)
    (hw : ∀ (r : S3x512.Idx) (k : S3x11264.Idx), (k 0).val = (r 0).val → (k 1).val = e * 512 + (r 1).val → w r = W k)
    (y : S1024x512.Idx) (i : Cert.FfnActRefIdeal.S1x16384x11264.Idx)
    (i1 : (i 1).val = b * 1024 + (y 0).val) (i2 : (i 2).val = e * 512 + (y 1).val) :
    k0_pay3 (F := Ideal) (BitVec.ofNat 32 b) p n x (View.ld w r0_2) (View.ld w r0_3) (View.ld w r0_4) y
    = val_main_v22 (F := Ideal) X W i := by
  rw [conv_ref]
  pointwise [k0_pay3]
  have hy : (y 0).val < 1024 := (y 0).isLt
  rw [Cert.Neighbours.above hy hb, Cert.Neighbours.below hy hb]
  refine congrArg₂ _ (congrArg₂ _ (congrArg₂ _ ?_ (hw _ _ rfl i2)) (congrArg₂ _ (hx _ _ i1 i2) (hw _ _ rfl i2)))
    (congrArg₂ _ ?_ (hw _ _ rfl i2))
  · split
    · split
      · rw [dif_neg (by omega)]
      · rw [dif_pos (by omega)]
        exact hp _ _ (by show (i 1).val - 1 + 16 = b * 1024 + 15; omega) i2
    · rw [dif_pos (by omega)]
      exact hx _ _ (by show (i 1).val - 1 = b * 1024 + ((y 0).val + 1024 - 1) % 1024; omega) i2
  · split
    · split
      · rw [dif_pos (by omega)]
        exact hn _ _ (by show 2 + (i 1).val - 1 = b * 1024 + 1024 + 0; omega) i2
      · rw [dif_neg (by omega)]
    · rw [dif_pos (by omega)]
      exact hx _ _ (by show 2 + (i 1).val - 1 = b * 1024 + ((y 0).val + 1024 - 1023) % 1024; omega) i2

/-- The activation of equal numbers: the kernel subtracts from zero what the reference negates. -/
theorem combine {a a' g g' : EReal} (ha : a = a') (hg : g = g') :
    a * Ideal.div 1 (1 + Ideal.exp (0 - a)) * g = a' * Ideal.div 1 (1 + Ideal.exp (-a')) * g' := by
  rw [ha, hg, zero_sub]

/-- The reference's result of the argument arrays that the kernel is given. -/
abbrev activated (c : Dev nD) : FVec Ideal S16384x5632 .bf16 :=
  val_main_v28 (F := Ideal) (m ((c : Thread nD τ).loc main_arg0)) (m ((c : Thread nD τ).loc main_arg1))

/-- The result array after the run. -/
theorem result (c : Dev nD) : (dats m 0 c).arrAt 8 (cfgs 0).N = activated m c := by
  refine (dats m 0 c).arrAt_eq_of_covers 8 _ (by decide +kernel) fun t _ y => ?_
  blk_simp
  rw [after0_8]
  frame_out
  pointwise [k0_pay1, k0_pay4, activated, val_main_v28, val_main_v27, val_main_v26, val_main_v25, val_main_call1_v5,
    val_main_call1_v4, val_main_call1_cst_0, val_main_call1_v3, val_main_call1_v2, val_main_call1_cst, val_main_call1_v1,
    val_main_call1_v0, val_main_v24, val_main_v23]
  have hb : (grid0.coords t 0).val = t.val / 11 := rows t
  rw [hb]
  have ht : t.val / 11 < 16 := by have := t.isLt; change t.val < 176 at this; omega
  have first := conv (m ((c : Thread nD τ).loc main_arg0)) (m ((c : Thread nD τ).loc main_arg1)) (b := t.val / 11)
    (e := t.val % 11) ht (iblk m c 1 t) (iblk m c 2 t) (iblk m c 0 t) (iblk m c 6 t)
    (by intro r k h h'; blk_ext [iblk, V, places t])
    (by intro r k h h'; blk_ext [iblk, V, places t])
    (by intro r k h h'; blk_ext [iblk, V, places t])
    (by intro r k h h'; blk_ext [iblk, V, places t]) y
  have second := conv (m ((c : Thread nD τ).loc main_arg0)) (m ((c : Thread nD τ).loc main_arg1)) (b := t.val / 11)
    (e := 11 + t.val % 11) ht (iblk m c 4 t) (iblk m c 5 t) (iblk m c 3 t) (iblk m c 7 t)
    (by intro r k h h'; blk_ext [iblk, V, places t])
    (by intro r k h h'; blk_ext [iblk, V, places t])
    (by intro r k h h'; blk_ext [iblk, V, places t])
    (by intro r k h h'; blk_ext [iblk, V, places t]) y
  refine combine ?_ (second _ ?_ ?_)
  · refine Eq.trans (congrArg (fun b => k0_pay3 (F := Ideal) (BitVec.ofNat 32 b) (iblk m c 1 t) (iblk m c 2 t) (iblk m c 0 t)
      (View.ld (iblk m c 6 t) r0_2) (View.ld (iblk m c 6 t) r0_3) (View.ld (iblk m c 6 t) r0_4) y) hb) (first _ ?_ ?_)
    all_goals blk_simp [places t]
  · blk_simp [places t]
  · blk_simp [places t]
    show 5632 + (t.val % 11 * 512 + (y 1).val) = _
    omega

end Cert.FfnActIdeal.Result

end
-- ==== Proof.ConvMixer.lean ====
/- The short gated convolution: each grid point multiplies two column ranges of one block of rows, convolves the product
   over three neighbouring rows, the rows just outside the block coming from further windows, and multiplies by a third
   column range. -/
module

public import proofs.«01_k».proof.Proof.Gen.ConvMixerIdeal.Value
public import proofs.«01_k».proof.Proof.Gen.ConvMixerRefIdeal.Read
public import proofs.«01_k».proof.Proof.Neighbours
public import Idealize.ShloMosaic.Lib.Pipeline.ValueKit
public import Idealize.ShloMosaic.Lib.Pointwise

@[expose] public section

set_option maxRecDepth 16384

noncomputable section

namespace Cert.ConvMixerIdeal.Result

open Cert.ConvMixerIdeal Cert.ConvMixerIdeal.Gen Idealize.ShloMosaic Idealize.ShloMosaic.TcCoe Idealize.SL.Sem
open Idealize.ShloMosaic.Pipeline (Dat)
open Cert.ConvMixerRefIdeal.Read

variable (m : (ℓ : Loc nD τ sig) → Buf (Elt Ideal) ℓ)

/-- Where the blocks of point `t` lie: block `t` of rows, the sixteen rows before and after it, and the column ranges. -/
theorem places : ∀ t : Fin cfg0.N, win0_0.index t = ![t.val, 0]
    ∧ win0_1.index t = ![t.val * 64 - 1, 0] ∧ win0_2.index t = ![min (t.val * 64 + 64) 1023, 0]
    ∧ win0_3.index t = ![t.val, 2]
    ∧ win0_4.index t = ![t.val * 64 - 1, 2] ∧ win0_5.index t = ![min (t.val * 64 + 64) 1023, 2]
    ∧ win0_6.index t = ![t.val, 1] ∧ win0_7.index t = ![0, 0] ∧ win0_8.index t = ![t.val, 0] :=
  (by decide +kernel : ∀ t : Fin grid0.N, _)

/-- The point's block of rows is the point's number. -/
theorem rows : ∀ t : Fin cfg0.N, (grid0.coords t 0).val = t.val :=
  (by decide +kernel : ∀ t : Fin grid0.N, _)

/-- The reference's result of the argument arrays that the kernel is given. -/
abbrev mixed (c : Dev nD) : FVec Ideal S16384x512 .bf16 :=
  val_main_v30 (F := Ideal) (m ((c : Thread nD τ).loc main_arg0)) (m ((c : Thread nD τ).loc main_arg1))

/-- The gated sum of equal numbers: the gate, then for each of the three rows two factors or zero, and a weight. -/
theorem combine {b b' p p' x x' y y' n n' u u' v v' w w' : EReal} (hb : b = b') (hp : p = p') (hu : u = u')
    (hx : x = x') (hy : y = y') (hv : v = v') (hn : n = n') (hw : w = w') :
    b * (p * u + x * y * v + n * w) = b' * (p' * u' + x' * y' * v' + n' * w') := by
  rw [hb, hp, hu, hx, hy, hv, hn, hw]

/-- A product of equal numbers. -/
theorem pair {x x' y y' : EReal} (hx : x = x') (hy : y = y') : x * y = x' * y' := by
  rw [hx, hy]

/-- A block's gated convolution is the array's: block `b` of rows of the two factors and of the gate, the factors' two
    neighbouring rows where there are any, and the weights. -/
theorem block (X : FVec Ideal S16384x13312 .bf16) (W : FVec Ideal S3x512 .f32) {b : Nat} (hb : b < 16)
    (x c g : FVec Ideal S1024x512 .bf16) (xp xn cp cn : FVec Ideal S16x512 .bf16) (w : FVec Ideal S3x512 .f32)
    (hx : ∀ (r : S1024x512.Idx) (k : S16384x13312.Idx), (k 0).val = b * 1024 + (r 0).val →
      (k 1).val = (r 1).val → x r = X k)
    (hxp : ∀ (r : S16x512.Idx) (k : S16384x13312.Idx), (k 0).val + 16 = b * 1024 + (r 0).val →
      (k 1).val = (r 1).val → xp r = X k)
    (hxn : ∀ (r : S16x512.Idx) (k : S16384x13312.Idx), (k 0).val = b * 1024 + 1024 + (r 0).val →
      (k 1).val = (r 1).val → xn r = X k)
    (hc : ∀ (r : S1024x512.Idx) (k : S16384x13312.Idx), (k 0).val = b * 1024 + (r 0).val →
      (k 1).val = 1024 + (r 1).val → c r = X k)
    (hcp : ∀ (r : S16x512.Idx) (k : S16384x13312.Idx), (k 0).val + 16 = b * 1024 + (r 0).val →
      (k 1).val = 1024 + (r 1).val → cp r = X k)
    (hcn : ∀ (r : S16x512.Idx) (k : S16384x13312.Idx), (k 0).val = b * 1024 + 1024 + (r 0).val →
      (k 1).val = 1024 + (r 1).val → cn r = X k)
    (hg : ∀ (r : S1024x512.Idx) (k : S16384x13312.Idx), (k 0).val = b * 1024 + (r 0).val →
      (k 1).val = 512 + (r 1).val → g r = X k)
    (hw : ∀ r k : S3x512.Idx, (k 0).val = (r 0).val → (k 1).val = (r 1).val → w r = W k)
    (y : S1024x512.Idx) (i : S16384x512.Idx) (i0 : (i 0).val = b * 1024 + (y 0).val) (i1 : (i 1).val = (y 1).val) :
    g y * (Scalar.select (IntOp.cmpi .eq (BitVec.ofNat 32 (y 0).val) 0#32)
          (Scalar.select (Scalar.cmpi .sgt (BitVec.ofNat 32 b) 0#32) (cp (ix2 15 (y 1)) * xp (ix2 15 (y 1))) 0)
          (c (ix2 ⟨((y 0).val + 1024 - 1) % 1024, Nat.mod_lt _ (by decide)⟩ (y 1))
            * x (ix2 ⟨((y 0).val + 1024 - 1) % 1024, Nat.mod_lt _ (by decide)⟩ (y 1))) * w (ix2 0 (y 1))
        + c y * x y * w (ix2 1 (y 1))
        + Scalar.select (IntOp.cmpi .eq (BitVec.ofNat 32 (y 0).val) 1023#32)
          (Scalar.select (Scalar.cmpi .slt (BitVec.ofNat 32 b) 15#32) (cn (ix2 0 (y 1)) * xn (ix2 0 (y 1))) 0)
          (c (ix2 ⟨((y 0).val + 1024 - 1023) % 1024, Nat.mod_lt _ (by decide)⟩ (y 1))
            * x (ix2 ⟨((y 0).val + 1024 - 1023) % 1024, Nat.mod_lt _ (by decide)⟩ (y 1))) * w (ix2 2 (y 1)))
    = val_main_v30 (F := Ideal) X W i := by
  have hy : (y 0).val < 1024 := (y 0).isLt
  rw [Cert.Neighbours.above hy hb, Cert.Neighbours.below hy hb]
  pointwise [val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_call0_v0, val_main_c]
  have far : ∀ a, a + (i 1).val = a + (y 1).val := fun a => by rw [i1]
  refine combine (hg _ _ i0 (far 512)) ?_ (hw _ _ rfl i1) (hc _ _ i0 (far 1024)) (hx _ _ i0 i1) (hw _ _ rfl i1) ?_
    (hw _ _ rfl i1)
  · split
    · split
      · rw [dif_neg (by omega)]
        exact Cert.Neighbours.zero_word.symm
      · rw [dif_pos (by omega)]
        have q : (i 0).val - 1 + 16 = b * 1024 + 15 := by omega
        exact pair (hcp _ _ q (far 1024)) (hxp _ _ q i1)
    · rw [dif_pos (by omega)]
      have q : (i 0).val - 1 = b * 1024 + ((y 0).val + 1024 - 1) % 1024 := by omega
      exact pair (hc _ _ q (far 1024)) (hx _ _ q i1)
  · split
    · split
      · rw [dif_pos (by omega)]
        have q : 2 + (i 0).val - 1 = b * 1024 + 1024 + 0 := by omega
        exact pair (hcn _ _ q (far 1024)) (hxn _ _ q i1)
      · rw [dif_neg (by omega)]
        exact Cert.Neighbours.zero_word.symm
    · rw [dif_pos (by omega)]
      have q : 2 + (i 0).val - 1 = b * 1024 + ((y 0).val + 1024 - 1023) % 1024 := by omega
      exact pair (hc _ _ q (far 1024)) (hx _ _ q i1)

/-- The first factor's block of rows. -/
theorem win0 (c : Dev nD) (t : Fin cfg0.N) (r : S1024x512.Idx) (k : S16384x13312.Idx)
    (h : (k 0).val = t.val * 1024 + (r 0).val) (h' : (k 1).val = (r 1).val) :
    iblk m c 0 t r = m ((c : Thread nD τ).loc main_arg0) k := by
  blk_ext [iblk, V, places t]

/-- The first factor's sixteen rows before the block. -/
theorem win1 (c : Dev nD) (t : Fin cfg0.N) (r : S16x512.Idx) (k : S16384x13312.Idx)
    (h : (k 0).val + 16 = t.val * 1024 + (r 0).val) (h' : (k 1).val = (r 1).val) :
    iblk m c 1 t r = m ((c : Thread nD τ).loc main_arg0) k := by
  blk_ext [iblk, V, places t]

/-- The first factor's sixteen rows after the block. -/
theorem win2 (c : Dev nD) (t : Fin cfg0.N) (r : S16x512.Idx) (k : S16384x13312.Idx)
    (h : (k 0).val = t.val * 1024 + 1024 + (r 0).val) (h' : (k 1).val = (r 1).val) :
    iblk m c 2 t r = m ((c : Thread nD τ).loc main_arg0) k := by
  blk_ext [iblk, V, places t]

/-- The second factor's block of rows. -/
theorem win3 (c : Dev nD) (t : Fin cfg0.N) (r : S1024x512.Idx) (k : S16384x13312.Idx)
    (h : (k 0).val = t.val * 1024 + (r 0).val) (h' : (k 1).val = 1024 + (r 1).val) :
    iblk m c 3 t r = m ((c : Thread nD τ).loc main_arg0) k := by
  blk_ext [iblk, V, places t]

/-- The second factor's sixteen rows before the block. -/
theorem win4 (c : Dev nD) (t : Fin cfg0.N) (r : S16x512.Idx) (k : S16384x13312.Idx)
    (h : (k 0).val + 16 = t.val * 1024 + (r 0).val) (h' : (k 1).val = 1024 + (r 1).val) :
    iblk m c 4 t r = m ((c : Thread nD τ).loc main_arg0) k := by
  blk_ext [iblk, V, places t]

/-- The second factor's sixteen rows after the block. -/
theorem win5 (c : Dev nD) (t : Fin cfg0.N) (r : S16x512.Idx) (k : S16384x13312.Idx)
    (h : (k 0).val = t.val * 1024 + 1024 + (r 0).val) (h' : (k 1).val = 1024 + (r 1).val) :
    iblk m c 5 t r = m ((c : Thread nD τ).loc main_arg0) k := by
  blk_ext [iblk, V, places t]

/-- The gate's block of rows. -/
theorem win6 (c : Dev nD) (t : Fin cfg0.N) (r : S1024x512.Idx) (k : S16384x13312.Idx)
    (h : (k 0).val = t.val * 1024 + (r 0).val) (h' : (k 1).val = 512 + (r 1).val) :
    iblk m c 6 t r = m ((c : Thread nD τ).loc main_arg0) k := by
  blk_ext [iblk, V, places t]

/-- The weights. -/
theorem win7 (c : Dev nD) (t : Fin cfg0.N) (r k : S3x512.Idx) (h : (k 0).val = (r 0).val) (h' : (k 1).val = (r 1).val) :
    iblk m c 7 t r = m ((c : Thread nD τ).loc main_arg1) k := by
  blk_ext [iblk, V, places t]

/-- The result array after the run. -/
theorem result (c : Dev nD) : (dats m 0 c).arrAt 8 (cfgs 0).N = mixed m c := by
  refine (dats m 0 c).arrAt_eq_of_covers 8 _ (by decide +kernel) fun t _ y => ?_
  blk_simp
  rw [after0_8]
  frame_out
  pointwise [k0_pay1, k0_pay2, k0_pay3, k0_pay4, k0_pay5, k0_pay6]
  rw [rows t]
  exact block (m ((c : Thread nD τ).loc main_arg0)) (m ((c : Thread nD τ).loc main_arg1)) (b := t.val) t.isLt
    (iblk m c 0 t) (iblk m c 3 t) (iblk m c 6 t) (iblk m c 1 t) (iblk m c 2 t) (iblk m c 4 t) (iblk m c 5 t) (iblk m c 7 t)
    (win0 m c t) (win1 m c t) (win2 m c t) (win3 m c t) (win4 m c t) (win5 m c t) (win6 m c t) (win7 m c t) y _
    (by blk_simp [places t]) (by blk_simp [places t])

end Cert.ConvMixerIdeal.Result

end
-- ==== Proof.HeadQueries.Tables.lean ====
/- The queries' rotation tables: what the host writes before the kernel runs is the reference's cosines, twice, and its
   sines, first negated. -/
module

public import proofs.«01_k».proof.Proof.Gen.HeadQueriesIdeal.Frame
public import proofs.«01_k».proof.Proof.Gen.HeadQueriesRefIdeal.Read
public import Idealize.ShloMosaic.Lib.StableHlo.RunRead
public import Idealize.ShloMosaic.Lib.Claim

@[expose] public section

set_option maxRecDepth 16384

noncomputable section

namespace Cert.HeadQueriesIdeal.Result

open Cert.HeadQueriesIdeal Cert.HeadQueriesIdeal.Gen Idealize.ShloMosaic Idealize.ShloMosaic.TcCoe Idealize.SL.Sem
open Cert.HeadQueriesRefIdeal.Read

variable (m : (ℓ : Loc nD τ sig) → Buf (Elt Ideal) ℓ)

/-- Two arrays side by side. -/
abbrev beside (a b : FVec Ideal S16384x64 .f32) : FVec Ideal S16384x128 .f32 :=
  concatenate S16384x128 1 [⟨S16384x64, a⟩, ⟨S16384x64, b⟩] concatenates_S16384x64_S16384x64_S16384x128_d1

/-- The angles' two halves side by side. -/
abbrev angles (a b : FVec Ideal S16384x32 .f32) : FVec Ideal S16384x64 .f32 :=
  concatenate S16384x64 1 [⟨S16384x32, a⟩, ⟨S16384x32, b⟩] concatenates_S16384x32_S16384x32_S16384x64_d1

/-- The first table. -/
theorem cos_table (c : Dev nD) : (V m c main_v25 : FVec Ideal S16384x128 .f32)
    = beside (val_main_v25 (F := Ideal)) (val_main_v25 (F := Ideal)) := by
  after_reads_simp
  refine congrArg (fun a => beside a a) ?_
  after_reads_simp
  refine congrArg (fun a : FVec Ideal S16384x64 .f32 => (Host.cos a : FVec Ideal S16384x64 .f32)) (congrArg₂ angles ?_ ?_)
  · after_reads_simp
    rfl
  · after_reads_simp
    rfl

set_option maxHeartbeats 1000000 in
/-- The second table. -/
theorem sin_table (c : Dev nD) : (V m c main_v27 : FVec Ideal S16384x128 .f32)
    = beside (Host.negf (val_main_v27 (F := Ideal)) : FVec Ideal S16384x64 .f32) (val_main_v27 (F := Ideal)) := by
  after_reads_simp
  refine congrArg₂ beside ?_ ?_
  all_goals after_reads_simp
  · refine congrArg (fun a : FVec Ideal S16384x64 .f32 => (Host.negf (Host.sin a : FVec Ideal S16384x64 .f32) :
      FVec Ideal S16384x64 .f32)) (congrArg₂ angles ?_ ?_)
    all_goals after_reads_simp
    all_goals rfl
  · refine congrArg (fun a : FVec Ideal S16384x64 .f32 => (Host.sin a : FVec Ideal S16384x64 .f32)) (congrArg₂ angles ?_ ?_)
    all_goals after_reads_simp
    all_goals rfl

/-- The gain, as one row. -/
theorem gain_row (c : Dev nD) : (V m c main_v0 : FVec Ideal S1x128 .f32)
    = shapeCast S1x128 (m ((c : Thread nD τ).loc main_arg1)) shapeCasts_S128_S1x128 := by
  entry_read
  rfl

end Cert.HeadQueriesIdeal.Result

end
-- ==== Proof.HeadQueries.lean ====
/- The queries' preparation: each grid point takes a block of rows of two heads, normalizes each head's rows by their root
   mean square and the gain, rotates them by the row's position, scales them and stores them transposed. -/
module

public import proofs.«01_k».proof.Proof.HeadQueries.Tables
public import Idealize.ShloMosaic.Lib.Pipeline.ValueKit
public import Idealize.ShloMosaic.Lib.Pointwise

@[expose] public section

set_option maxRecDepth 16384

noncomputable section

namespace Cert.HeadQueriesIdeal.Result

open Cert.HeadQueriesIdeal Cert.HeadQueriesIdeal.Gen Idealize.ShloMosaic Idealize.ShloMosaic.TcCoe Idealize.SL.Sem
open Idealize.ShloMosaic.Pipeline (Dat)
open Cert.HeadQueriesRefIdeal.Read

variable (m : (ℓ : Loc nD τ sig) → Buf (Elt Ideal) ℓ)

/-- Where the blocks of point `t` lie: block `t / 4` of rows and of the tables, pair `t % 4` of heads. -/
theorem places : ∀ t : Fin cfg0.N, win0_0.index t = ![t.val / 4, 14 + t.val % 4]
    ∧ win0_1.index t = ![0, 0] ∧ win0_2.index t = ![t.val / 4, 0] ∧ win0_3.index t = ![t.val / 4, 0]
    ∧ win0_4.index t = ![t.val % 4, 0, t.val / 4] :=
  (by decide +kernel : ∀ t : Fin grid0.N, _)

/-- One row's factor: the reciprocal root of the mean square of the 128 numbers `f`, and of the small constant. -/
abbrev factor (f : Fin 128 → EReal) : EReal :=
  Ideal.rsqrt (Ideal.div (∑ j, f j * f j) (Ideal.ofBits .f32 1124073472#32) + Ideal.ofBits .f32 897988541#32)

/-- The reference's normalized queries at row `r`, head `h` and component `j`. -/
abbrev scaled (X : FVec Ideal S16384x13312 .bf16) (G : FVec Ideal S128 .f32) (r : Fin 16384) (h : Fin 8) (j : Fin 128) : EReal :=
  val_main_v42 (F := Ideal) X G (ix4 0 r h j)

/-- The reference's result at a place: a rotation of two components, written by the halves. -/
theorem rotated (X : FVec Ideal S16384x13312 .bf16) (G : FVec Ideal S128 .f32) (i : S8x128x16384.Idx) :
    val_main_v60 (F := Ideal) X G i
    = (scaled X G (i 2) (i 0) (i 1) * beside (val_main_v25 (F := Ideal)) (val_main_v25 (F := Ideal)) (ix2 (i 2) (i 1))
        + scaled X G (i 2) (i 0) ⟨((i 1).val + 128 - 64) % 128, Nat.mod_lt _ (by decide)⟩
          * beside (Host.negf (val_main_v27 (F := Ideal)) : FVec Ideal S16384x64 .f32) (val_main_v27 (F := Ideal))
            (ix2 (i 2) (i 1))) * Ideal.ofBits .f32 1035273459#32 := by
  have h1 : (i 1).val < 128 := (i 1).isLt
  pointwise [val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_v43, val_main_v28, val_main_v26, val_main_cst_5, beside, scaled]
  congr 1
  by_cases h : (i 1).val < 64
  · have e : (⟨((i 1).val + 128 - 64) % 128, Nat.mod_lt _ (by decide)⟩ : Fin 128) = ⟨64 + (i 1).val, by omega⟩ :=
      Fin.ext (by show ((i 1).val + 128 - 64) % 128 = 64 + (i 1).val; omega)
    simp only [h, e, dif_pos, mul_neg, sub_eq_add_neg]
  · have e : (⟨((i 1).val + 128 - 64) % 128, Nat.mod_lt _ (by decide)⟩ : Fin 128) = ⟨(i 1).val - 64, by omega⟩ :=
      Fin.ext (by show ((i 1).val + 128 - 64) % 128 = (i 1).val - 64; omega)
    have e' : (⟨64 + ((i 1).val - 64), by omega⟩ : Fin 128) = i 1 :=
      Fin.ext (by show 64 + ((i 1).val - 64) = (i 1).val; omega)
    simp only [h, e, dif_neg, not_false_eq_true]
    rw [e', add_comm]

/-- The second head's block is computed as the first's is. -/
theorem same (x : FVec Ideal S512x128 .bf16) (g : FVec Ideal S1x128 .f32) (cs sn : FVec Ideal S512x128 .f32) :
    k0_pay1 (F := Ideal) (k0_pay3 x) (k0_pay4 x) (k0_pay5 (F := Ideal)) g cs sn = k0_pay2 (F := Ideal) x g cs sn := rfl

/-- A block's result is the array's: the rows of head `h` from row `b` on, the gain and the two tables' rows. -/
theorem block (X : FVec Ideal S16384x13312 .bf16) (G : FVec Ideal S128 .f32) {b h : Nat}
    (x : FVec Ideal S512x128 .bf16) (g : FVec Ideal S1x128 .f32) (cs sn : FVec Ideal S512x128 .f32)
    (C S : FVec Ideal S16384x128 .f32)
    (hx : ∀ (r : S512x128.Idx) (k : S16384x13312.Idx), (k 0).val = b + (r 0).val →
      (k 1).val = 3584 + (h * 128 + (r 1).val) → x r = X k)
    (hg : ∀ (r : S1x128.Idx) (k : S128.Idx), (k 0).val = (r 1).val → g r = G k)
    (y : S1x128x512.Idx) (i : S8x128x16384.Idx) (i0 : (i 0).val = h) (i1 : (i 1).val = (y 1).val)
    (i2 : (i 2).val = b + (y 2).val)
    (hC : cs (ix2 (y 2) (y 1)) = C (ix2 (i 2) (i 1))) (hS : sn (ix2 (y 2) (y 1)) = S (ix2 (i 2) (i 1))) :
    k0_pay2 (F := Ideal) x g cs sn y
    = (scaled X G (i 2) (i 0) (i 1) * C (ix2 (i 2) (i 1))
        + scaled X G (i 2) (i 0) ⟨((i 1).val + 128 - 64) % 128, Nat.mod_lt _ (by decide)⟩
          * S (ix2 (i 2) (i 1))) * Ideal.ofBits .f32 1035273459#32 := by
  have norm : ∀ j j' : Fin 128, j.val = j'.val →
      x (ix2 (y 2) j) * factor (fun k => x (ix2 (y 2) k)) * g (ix2 0 j) = scaled X G (i 2) (i 0) j' := by
    intro j j' e
    have elt : ∀ k k' : Fin 128, k.val = k'.val →
        x (ix2 (y 2) k) = X (ix2 (i 2) ⟨3584 + ((i 0).val * 128 + k'.val), by have := (i 0).isLt; change (i 0).val < 8 at this; omega⟩) := by
      intro k k' e
      exact hx _ _ i2 (by show 3584 + ((i 0).val * 128 + k'.val) = 3584 + (h * 128 + k.val); rw [i0, e])
    have fac : factor (fun k => x (ix2 (y 2) k)) = factor (fun k => X (ix2 (i 2) ⟨3584 + ((i 0).val * 128 + k.val), by have := (i 0).isLt; change (i 0).val < 8 at this; omega⟩)) :=
      congrArg factor (funext fun k => elt k k rfl)
    rw [elt j j' e, fac, hg (ix2 0 j) (ix1 j') e.symm]
    pointwise [scaled, factor, val_main_v42, val_main_v41, val_main_v40, val_main_v39, val_main_v38, val_main_v37, val_main_v36, val_main_v35,
      val_main_v34, val_main_v33, val_main_v32, val_main_v31, val_main_v30, val_main_v29, val_main_v2, val_main_v1, val_main_v0,
      val_main_cst_2, val_main_cst_3, val_main_cst_4]
  pointwise [k0_pay2]
  rw [← hC, ← hS, ← norm (y 1) (i 1) i1.symm,
    ← norm ⟨((y 1).val + 128 - 64) % 128, Nat.mod_lt _ (by decide)⟩ ⟨((i 1).val + 128 - 64) % 128, Nat.mod_lt _ (by decide)⟩
      (by show ((y 1).val + 128 - 64) % 128 = ((i 1).val + 128 - 64) % 128; rw [i1])]

/-- The queries' block: 512 rows of two heads. -/
theorem win0 (c : Dev nD) (t : Fin cfg0.N) (r : S512x256.Idx) (k : S16384x13312.Idx)
    (h : (k 0).val = t.val / 4 * 512 + (r 0).val) (h' : (k 1).val = 3584 + (t.val % 4 * 256 + (r 1).val)) :
    iblk m c 0 t r = m ((c : Thread nD τ).loc main_arg0) k := by
  blk_ext [iblk, V, places t]

/-- The gain. -/
theorem win1 (c : Dev nD) (t : Fin cfg0.N) (r : S1x128.Idx) (k : S128.Idx) (h : (k 0).val = (r 1).val) :
    iblk m c 1 t r = m ((c : Thread nD τ).loc main_arg1) k := by
  have e : iblk m c 1 t r = (V m c main_v0 : FVec Ideal S1x128 .f32) (ix2 0 (r 1)) := by
    unfold iblk
    blk_ext [places t]
  rw [e, gain_row]
  pointwise []
  refine congrArg _ (funext fun a => Fin.ext ?_)
  match a with
  | ⟨0, _⟩ => exact h.symm

/-- The first table's rows. -/
theorem win2 (c : Dev nD) (t : Fin cfg0.N) (r : S512x128.Idx) (k : S16384x128.Idx)
    (h : (k 0).val = t.val / 4 * 512 + (r 0).val) (h' : (k 1).val = (r 1).val) :
    iblk m c 2 t r = beside (val_main_v25 (F := Ideal)) (val_main_v25 (F := Ideal)) k := by
  rw [← cos_table m c]
  unfold iblk
  blk_ext [places t]

/-- The second table's rows. -/
theorem win3 (c : Dev nD) (t : Fin cfg0.N) (r : S512x128.Idx) (k : S16384x128.Idx)
    (h : (k 0).val = t.val / 4 * 512 + (r 0).val) (h' : (k 1).val = (r 1).val) :
    iblk m c 3 t r
    = beside (Host.negf (val_main_v27 (F := Ideal)) : FVec Ideal S16384x64 .f32) (val_main_v27 (F := Ideal)) k := by
  rw [← sin_table m c]
  unfold iblk
  blk_ext [places t]

/-- The reference's result of the argument arrays that the kernel is given. -/
abbrev queries (c : Dev nD) : FVec Ideal S8x128x16384 .bf16 :=
  val_main_v60 (F := Ideal) (m ((c : Thread nD τ).loc main_arg0)) (m ((c : Thread nD τ).loc main_arg1))

/-- One head of a point: the point's rows of head `a` of its pair, however they are loaded, lead to the reference's. -/
theorem head (c : Dev nD) (t : Fin cfg0.N) (a : Nat) (x : FVec Ideal S512x128 .bf16)
    (hx : ∀ (r : S512x128.Idx) (k : S16384x13312.Idx), (k 0).val = t.val / 4 * 512 + (r 0).val →
      (k 1).val = 3584 + ((t.val % 4 * 2 + a) * 128 + (r 1).val) → x r = m ((c : Thread nD τ).loc main_arg0) k)
    (y : S1x128x512.Idx) (i : S8x128x16384.Idx) (i0 : (i 0).val = t.val % 4 * 2 + a) (i1 : (i 1).val = (y 1).val)
    (i2 : (i 2).val = t.val / 4 * 512 + (y 2).val) :
    k0_pay2 (F := Ideal) x (View.ld (iblk m c 1 t) r0_1) (View.ld (iblk m c 2 t) r0_2) (View.ld (iblk m c 3 t) r0_2) y
    = queries m c i := by
  refine (block (m ((c : Thread nD τ).loc main_arg0)) (m ((c : Thread nD τ).loc main_arg1)) x _ _ _
    (beside (val_main_v25 (F := Ideal)) (val_main_v25 (F := Ideal)))
    (beside (Host.negf (val_main_v27 (F := Ideal)) : FVec Ideal S16384x64 .f32) (val_main_v27 (F := Ideal)))
    hx ?_ y i i0 i1 i2 ?_ ?_).trans (rotated _ _ i).symm
  · intro r k h
    pointwise []
    exact win1 m c t _ k h
  · have e : View.ld (iblk m c 2 t) r0_2 (ix2 (y 2) (y 1)) = iblk m c 2 t (ix2 (y 2) (y 1)) := by
      pointwise []
    exact e.trans (win2 m c t (ix2 (y 2) (y 1)) (ix2 (i 2) (i 1)) i2 i1)
  · have e : View.ld (iblk m c 3 t) r0_2 (ix2 (y 2) (y 1)) = iblk m c 3 t (ix2 (y 2) (y 1)) := by
      pointwise []
    exact e.trans (win3 m c t (ix2 (y 2) (y 1)) (ix2 (i 2) (i 1)) i2 i1)

/-- The result array after the run. -/
theorem result (c : Dev nD) : (dats m 0 c).arrAt 4 (cfgs 0).N = queries m c := by
  refine (dats m 0 c).arrAt_eq_of_covers 4 _ (by decide +kernel) fun t _ y => ?_
  blk_simp
  rw [after0_4]
  generalize hi : ((View.whole main_v28).slice (win0_4.rect t)).emb y = i
  have i0 : (i 0).val = t.val % 4 * 2 + (y 0).val := by rw [← hi]; blk_simp [places t]
  have i1 : (i 1).val = (y 1).val := by rw [← hi]; blk_simp [places t]
  have i2 : (i 2).val = t.val / 4 * 512 + (y 2).val := by rw [← hi]; blk_simp [places t]
  show out0_4 _ _ _ _ _ = _
  unfold out0_4
  rw [same]
  canon_tiles x h
  · refine head m c t 1 _ ?_ x i (by omega) (by omega) (by omega)
    intro r k h h'
    pointwise []
    exact win0 m c t _ k h (by show (k 1).val = 3584 + (t.val % 4 * 256 + (128 + (r 1).val)); omega)
  · refine head m c t 0 _ ?_ x i (by omega) (by omega) (by omega)
    intro r k h h'
    pointwise []
    exact win0 m c t _ k h (by show (k 1).val = 3584 + (t.val % 4 * 256 + (r 1).val); omega)

end Cert.HeadQueriesIdeal.Result

end
-- ==== Proof.Modulation.lean ====
/- The modulation: each grid point applies the activation to all rows and multiplies them by one block of columns of the
   weight, and adds the block's bias. -/
module

public import proofs.«01_k».proof.Proof.Gen.ModulationIdeal.Value
public import proofs.«01_k».proof.Proof.Gen.ModulationIdeal.Frame
public import proofs.«01_k».proof.Proof.Gen.ModulationRefIdeal.Read
public import Idealize.ShloMosaic.Lib.Pipeline.ValueKit
public import Idealize.ShloMosaic.Lib.Pointwise

@[expose] public section

set_option maxRecDepth 16384

noncomputable section

namespace Cert.ModulationIdeal.Result

open Cert.ModulationIdeal Cert.ModulationIdeal.Gen Idealize.ShloMosaic Idealize.ShloMosaic.TcCoe Idealize.SL.Sem
open Idealize.ShloMosaic.Pipeline (Dat)
open Cert.ModulationRefIdeal.Read

variable (m : (ℓ : Loc nD τ sig) → Buf (Elt Ideal) ℓ)

/-- Where the blocks of point `t` lie: block `t` of columns, all rows. -/
theorem places : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The bias is staged as one row. -/
theorem bias_row (c : Dev nD) (j : Fin 12288) :
    V m c main_v0 (ix2 0 j) = m ((c : Thread nD τ).loc main_arg2) (ix1 j) := by
  entry_read
  pointwise

/-- The rows, whole at every point. -/
theorem win0 (c : Dev nD) (t : Fin cfg0.N) (r : S8x2048.Idx) (k : S8x2048.Idx)
    (h : (k 0).val = (r 0).val) (h' : (k 1).val = (r 1).val) :
    iblk m c 0 t r = m ((c : Thread nD τ).loc main_arg0) k := by
  blk_ext [iblk, V, places t]

/-- The weight's columns. -/
theorem win1 (c : Dev nD) (t : Fin cfg0.N) (r : S2048x1024.Idx) (k : S2048x12288.Idx)
    (h : (k 0).val = (r 0).val) (h' : (k 1).val = t.val * 1024 + (r 1).val) :
    iblk m c 1 t r = m ((c : Thread nD τ).loc main_arg1) k := by
  blk_ext [iblk, V, places t]

/-- The bias's columns. -/
theorem win2 (c : Dev nD) (t : Fin cfg0.N) (r : S1x1024.Idx) (k : S12288.Idx) (h : (k 0).val = t.val * 1024 + (r 1).val) :
    iblk m c 2 t r = m ((c : Thread nD τ).loc main_arg2) k := by
  have e : iblk m c 2 t r = V m c main_v0 (ix2 0 (k 0)) := by
    blk_ext [iblk, places t]
  refine e.trans ((bias_row m c (k 0)).trans (congrArg _ (funext fun a => Fin.ext ?_)))
  match a with
  | ⟨0, _⟩ => rfl

/-- A block's result is the array's: the kernel subtracts from zero what the reference negates. -/
theorem block (X : FVec Ideal S8x2048 .f32) (W : FVec Ideal S2048x12288 .f32) (B : FVec Ideal S12288 .f32) {t : Nat}
    (x : FVec Ideal S8x2048 .f32) (w : FVec Ideal S2048x1024 .f32) (b : FVec Ideal S1x1024 .f32)
    (hx : ∀ r k : S8x2048.Idx, (k 0).val = (r 0).val → (k 1).val = (r 1).val → x r = X k)
    (hw : ∀ (r : S2048x1024.Idx) (k : S2048x12288.Idx), (k 0).val = (r 0).val → (k 1).val = t * 1024 + (r 1).val → w r = W k)
    (hb : ∀ (r : S1x1024.Idx) (k : S12288.Idx), (k 0).val = t * 1024 + (r 1).val → b r = B k)
    (y : S8x1024.Idx) (i : S8x12288.Idx) (i0 : (i 0).val = (y 0).val) (i1 : (i 1).val = t * 1024 + (y 1).val) :
    k0_pay1 (F := Ideal) x w b y = val_main_v4 (F := Ideal) X W B i := by
  pointwise [k0_pay1, val_main_v4, val_main_v3, val_main_v2, val_main_v1, val_main_v0, val_main_call0_v5, val_main_call0_v4,
    val_main_call0_cst_0, val_main_call0_v3, val_main_call0_v2, val_main_call0_cst, val_main_call0_v1, val_main_call0_v0]
  refine congrArg₂ _ (Finset.sum_congr rfl fun k _ => ?_) (hb _ _ i1)
  rw [hx (ix2 (y 0) k) (ix2 (i 0) k) i0 rfl, hw (ix2 k (y 1)) (ix2 k (i 1)) rfl i1, zero_sub]

/-- The reference's result of the argument arrays that the kernel is given. -/
abbrev modulations (c : Dev nD) : FVec Ideal S8x12288 .f32 :=
  val_main_v4 (F := Ideal) (m ((c : Thread nD τ).loc main_arg0)) (m ((c : Thread nD τ).loc main_arg1))
    (m ((c : Thread nD τ).loc main_arg2))

/-- The result array after the run. -/
theorem result (c : Dev nD) : (dats m 0 c).arrAt 3 (cfgs 0).N = modulations m c := by
  refine (dats m 0 c).arrAt_eq_of_covers 3 _ (by decide +kernel) fun t _ y => ?_
  blk_simp
  rw [after0_3]
  frame_out
  refine block _ _ _ (t := t.val) _ _ _ (win0 m c t) (win1 m c t) (win2 m c t) y _ ?_ ?_
  all_goals blk_simp [places t]

end Cert.ModulationIdeal.Result

end
-- ==== Proof.Preparations.lean ====
/- The equations of the feed-forward activation, the gated convolution, the queries' preparation and the modulation: each
   kernel's result is its reference's. -/
module

public import proofs.«01_k».proof.Defs
public import proofs.«01_k».proof.Proof.FfnAct
public import proofs.«01_k».proof.Proof.ConvMixer
public import proofs.«01_k».proof.Proof.HeadQueries
public import proofs.«01_k».proof.Proof.Modulation
public import proofs.«01_k».proof.Proof.Gen.HeadQueriesIdeal.Value
public import Idealize.ShloMosaic.Lib.Claim

@[expose] public section

set_option maxRecDepth 16384

noncomputable section

namespace Cert.Preparations

open Idealize.ShloMosaic Idealize.SL.Sem

/-- The feed-forward activation: the kernel and the reference end with the same result. -/
theorem ffnAct : Cert.algebraic_FfnActIdeal_FfnActRefIdeal := by
  pair_intro
  · run_from Cert.FfnActIdeal.Gen.run_main m g
  · refine (θ_run _ _ _).mono (fun r h c => ?_) (Cert.FfnActRefIdeal.Value.run m' g')
    obtain ⟨h0, h1⟩ := hagree c
    refine ⟨(h c).1.trans ?_, (h c).2⟩
    rw [Cert.FfnActRefIdeal.Read.val_main_v28_eq, h0, h1]
    exact (Cert.FfnActIdeal.Result.result m c).symm

/-- The gated convolution: the kernel and the reference end with the same result. -/
theorem convMixer : Cert.algebraic_ConvMixerIdeal_ConvMixerRefIdeal := by
  pair_intro
  · run_from Cert.ConvMixerIdeal.Gen.run_main m g
  · run_from Cert.ConvMixerRefIdeal.Value.run m' g'
    exact (Cert.ConvMixerIdeal.Result.result m c).symm

/-- The queries' preparation: the kernel and the reference end with the same result. -/
theorem headQueries : Cert.algebraic_HeadQueriesIdeal_HeadQueriesRefIdeal := by
  pair_intro
  · exact Cert.HeadQueriesIdeal.Value.run_blocks m g
  · refine (θ_run _ _ _).mono (fun r h c => ?_) (Cert.HeadQueriesRefIdeal.Value.run m' g')
    obtain ⟨h0, h1⟩ := hagree c
    refine ⟨(h c).1.trans ?_, (h c).2⟩
    rw [Cert.HeadQueriesRefIdeal.Read.val_main_v60_eq, h0, h1]
    exact (Cert.HeadQueriesIdeal.Result.result m c).symm

/-- The modulation: the kernel and the reference end with the same result. -/
theorem modulation : Cert.algebraic_ModulationIdeal_ModulationRefIdeal := by
  pair_intro
  · run_from Cert.ModulationIdeal.Gen.run_main m g
  · refine (θ_run _ _ _).mono (fun r h c => ?_) (Cert.ModulationRefIdeal.Value.run m' g')
    obtain ⟨h0, h1, h2⟩ := hagree c
    refine ⟨(h c).1.trans ?_, (h c).2⟩
    rw [Cert.ModulationRefIdeal.Read.val_main_v4_eq, h0, h1, h2]
    exact (Cert.ModulationIdeal.Result.result m c).symm

end Cert.Preparations

end
-- ==== Proof.Attention.Softmax.lean ====
/- The arithmetic of a softmax average computed in blocks, over the extended reals.  The scores are real numbers, the
   values may be anything.  After the keys below `n` a column carries a reference point `r`, the sum of `exp (s - r)`
   and the sum of the values weighted by `exp (s - r)`.  A further block moves the reference point and rescales both
   sums; dividing one by the other gives the softmax average, whatever the reference point. -/
module

public import Idealize.ShloMosaic.PureOps.Ideal
public import Mathlib.Data.EReal.Operations
public import Mathlib.Data.EReal.Inv
public import Mathlib.Algebra.BigOperators.Fin
public import Mathlib.Data.Finset.Fold
public import Mathlib.Analysis.SpecialFunctions.Exp

@[expose] public section

noncomputable section

namespace Cert.Softmax

open Idealize.ShloMosaic

/-- A finite sum of extended reals times a real factor that is not negative is the sum of the products. -/
theorem sum_mul_real {ι : Type} (t : Finset ι) (f : ι → EReal) {x : ℝ} (hx : 0 ≤ x) :
    (∑ k ∈ t, f k) * (x : EReal) = ∑ k ∈ t, f k * (x : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hx) (EReal.coe_ne_top x) _ _

/-- A finite sum of reals, as an extended real. -/
theorem sum_real {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The exponential of a real number is the real one. -/
theorem exp_real (x : ℝ) : Ideal.exp (x : EReal) = (Real.exp x : EReal) := rfl

/-- The exponential of a difference of reals. -/
theorem exp_sub_real (x y : ℝ) : Ideal.exp ((x : EReal) - y) = (Real.exp (x - y) : EReal) := by
  rw [← EReal.coe_sub, exp_real]

/-- The maximum of finitely many reals and one more is real. -/
theorem max_real {n : ℕ} (r : ℝ) (s : Fin n → ℝ) :
    ∃ r' : ℝ, max (r : EReal) (Finset.univ.fold max ⊥ fun k => (s k : EReal)) = r' := by
  have top : max (r : EReal) (Finset.univ.fold max ⊥ fun k => (s k : EReal)) < ⊤ :=
    max_lt (EReal.coe_lt_top r) ((Finset.fold_max_lt _).mpr ⟨bot_lt_top, fun k _ => EReal.coe_lt_top (s k)⟩)
  have bot := lt_of_lt_of_le (EReal.bot_lt_coe r) (le_max_left _ (Finset.univ.fold max ⊥ fun k => (s k : EReal)))
  exact ⟨_, (EReal.coe_toReal top.ne bot.ne').symm⟩

/-- The maximum of finitely many reals, at least one, is real. -/
theorem fold_max_real {n : ℕ} (s : Fin (n + 1) → ℝ) :
    ∃ r : ℝ, (Finset.univ.fold max ⊥ fun k => (s k : EReal)) = r := by
  have top : (Finset.univ.fold max ⊥ fun k => (s k : EReal)) < ⊤ :=
    (Finset.fold_max_lt _).mpr ⟨bot_lt_top, fun k _ => EReal.coe_lt_top (s k)⟩
  have bot : ⊥ < Finset.univ.fold max ⊥ fun k => (s k : EReal) :=
    (Finset.lt_fold_max _).mpr (.inr ⟨0, Finset.mem_univ _, EReal.bot_lt_coe (s 0)⟩)
  exact ⟨_, (EReal.coe_toReal top.ne bot.ne').symm⟩

/-- What a column carries after the keys below `n`: a real reference point `m`, the sum `l` of the weights
    `exp (s k - m)`, and the sum `a` of the values with these weights. -/
def Carries (s : ℕ → ℝ) (v : ℕ → EReal) (n : ℕ) (m l a : EReal) : Prop :=
  ∃ r : ℝ, m = r ∧ l = ((∑ k ∈ Finset.range n, Real.exp (s k - r) : ℝ) : EReal)
    ∧ a = ∑ k ∈ Finset.range n, v k * (Real.exp (s k - r) : EReal)

/-- Before the first key: any real reference point and two zeros. -/
theorem carries_zero (s : ℕ → ℝ) (v : ℕ → EReal) (r : ℝ) : Carries s v 0 r 0 0 :=
  ⟨r, rfl, by simp, by simp⟩

/-- A block of `b` further keys: the reference point becomes the maximum of the old one and the block's scores, the old
    sums are rescaled to it, and the block's own sums are added. -/
theorem carries_block {s : ℕ → ℝ} {v : ℕ → EReal} {n : ℕ} {m l a : EReal} (h : Carries s v n m l a) {b : ℕ}
    {sb vb : Fin b → EReal} (hs : ∀ k : Fin b, sb k = (s (n + k) : EReal)) (hv : ∀ k : Fin b, vb k = v (n + k))
    {m' : EReal} (hm : m' = max m (Finset.univ.fold max ⊥ sb)) :
    Carries s v (n + b) m' (Ideal.exp (m - m') * l + ∑ k, Ideal.exp (sb k - m'))
      (Ideal.exp (m - m') * a + ∑ k, vb k * Ideal.exp (sb k - m')) := by
  obtain ⟨r, rfl, rfl, rfl⟩ := h
  obtain rfl : sb = fun k : Fin b => (s (n + k) : EReal) := funext hs
  obtain rfl : vb = fun k : Fin b => v (n + k) := funext hv
  obtain ⟨r', hr⟩ := max_real r fun k : Fin b => s (n + k)
  obtain rfl : m' = r' := hm.trans hr
  have shift (k : ℕ) : Real.exp (s k - r) * Real.exp (r - r') = Real.exp (s k - r') := by
    rw [← Real.exp_add]; ring_nf
  refine ⟨r', rfl, ?_, ?_⟩
  · have block : ∑ k : Fin b, (Real.exp (s (n + k) - r') : EReal)
        = ((∑ k ∈ Finset.range b, Real.exp (s (n + k) - r') : ℝ) : EReal) := by
      rw [sum_real, Finset.sum_range]
    simp only [exp_sub_real]
    rw [block, Finset.sum_range_add, EReal.coe_add, ← EReal.coe_mul, mul_comm, Finset.sum_mul]
    simp only [shift]
  · simp only [exp_sub_real]
    rw [Finset.sum_range_add, mul_comm, sum_mul_real _ _ (Real.exp_nonneg _)]
    simp only [mul_assoc, ← EReal.coe_mul, shift]
    rw [Finset.sum_range fun k => v (n + k) * _]

/-- The quotient of the two carried sums is the softmax average about any real reference point `M`. -/
theorem carries_quotient {s : ℕ → ℝ} {v : ℕ → EReal} {n : ℕ} {m l a : EReal} (h : Carries s v n m l a) (hn : 0 < n)
    (M : ℝ) :
    a * Ideal.div 1 l = ∑ k : Fin n, v k * Ideal.div (Ideal.exp ((s k : EReal) - M))
      (∑ j : Fin n, Ideal.exp ((s j : EReal) - M)) := by
  obtain ⟨r, rfl, rfl, rfl⟩ := h
  have pos (x : ℝ) : 0 < ∑ k ∈ Finset.range n, Real.exp (s k - x) :=
    Finset.sum_pos (fun k _ => Real.exp_pos _) ⟨0, Finset.mem_range.mpr hn⟩
  have div_real (x y : ℝ) (hy : 0 < y) : Ideal.div (x : EReal) (y : EReal) = ((x * y⁻¹ : ℝ) : EReal) := by
    rw [Ideal.div, if_neg (by exact_mod_cast hy.ne'), EReal.coe_mul, EReal.coe_inv]
  have total : ∑ k ∈ Finset.range n, Real.exp (s k - r)
      = Real.exp (M - r) * ∑ k ∈ Finset.range n, Real.exp (s k - M) := by
    rw [Finset.mul_sum]
    exact Finset.sum_congr rfl fun k _ => by rw [← Real.exp_add]; ring_nf
  simp only [exp_sub_real]
  rw [← sum_real Finset.univ fun j : Fin n => Real.exp (s j - M), ← Finset.sum_range fun j => Real.exp (s j - M),
    ← EReal.coe_one, div_real _ _ (pos r), one_mul, sum_mul_real _ _ (inv_nonneg.mpr (pos r).le), Finset.sum_range]
  refine Finset.sum_congr rfl fun k _ => ?_
  rw [div_real _ _ (pos M), mul_assoc, ← EReal.coe_mul, total, mul_inv, ← mul_assoc, ← Real.exp_neg, ← Real.exp_add]
  ring_nf

end Cert.Softmax

end
-- ==== Proof.Attention.Step.lean ====
/- What one head of one block of queries computes.  The kernel walks the keys in 32 blocks of 512 and a last block of
   256, carrying for each query a reference point, a sum of exponentials and a weighted sum of values.  This module reads
   each of the printed vector expressions at one query, and shows that after all the keys the head's entry is the softmax
   average of the values. -/
module

public import proofs.«01_k».proof.Proof.Gen.AttnIdeal.Value
public import proofs.«01_k».proof.Proof.Attention.Softmax
public import Idealize.ShloMosaic.Lib.Pipeline.ValueKit
public import Idealize.ShloMosaic.Lib.Pointwise

@[expose] public section

set_option maxRecDepth 16384

noncomputable section

namespace Cert.AttnIdeal.Head

open Cert.AttnIdeal Cert.AttnIdeal.Gen Cert.Softmax Idealize.ShloMosaic Idealize.ShloMosaic.TcCoe

/-- The constant the running maximum is folded from is −∞. -/
theorem ofBits_bot : Ideal.ofBits .f32 4286578688#32 = (⊥ : EReal) := by simp [Ideal.ofBits, Ideal.ieee]

/-- The constant the running maximum starts at (−1e30) is a real number. -/
theorem ofBits_start : ∃ r : ℝ, Ideal.ofBits .f32 4048155338#32 = (r : EReal) := by
  simp [Ideal.ofBits, Ideal.ieee]
  exact ⟨_, rfl⟩

/-- The carried triple: reference point, sum of exponentials, weighted sum of values. -/
abbrev State : Type := FVec Ideal S1x512 .f32 × FVec Ideal S1x512 .f32 × FVec Ideal S128x512 .f32

section Readings

variable (q0 : FVec Ideal S1x128x512 .bf16) (kb : FVec Ideal S1x512x128 .bf16) (vb : FVec Ideal S1x128x512 .bf16)
  (mo lo : FVec Ideal S1x512 .f32) (ao : FVec Ideal S128x512 .f32) (q : Fin 512)

/-- The score of key `j` of a block against query `q`. -/
theorem score_at (j : Fin 512) : k0_pay5 (F := Ideal) q0 kb (ix2 j q) = ∑ d : Fin 128, kb (ix3 0 j d) * q0 (ix3 0 d q) := by
  pointwise [k0_pay5, k0_pay1]

/-- The new reference point. -/
theorem max_at : k0_pay6 (F := Ideal) q0 mo kb (ix2 0 q) = max (mo (ix2 0 q))
    (Finset.univ.fold max ⊥ fun j : Fin 512 => ∑ d : Fin 128, kb (ix3 0 j d) * q0 (ix3 0 d q)) := by
  pointwise [k0_pay6, k0_pay5, k0_pay1]
  rw [ofBits_bot]

/-- The new sum of exponentials. -/
theorem sum_at : k0_pay9 (F := Ideal) q0 mo lo kb (ix2 0 q)
    = Ideal.exp (mo (ix2 0 q) - k0_pay6 (F := Ideal) q0 mo kb (ix2 0 q)) * lo (ix2 0 q)
      + ∑ j : Fin 512, Ideal.exp ((∑ d : Fin 128, kb (ix3 0 j d) * q0 (ix3 0 d q)) - k0_pay6 (F := Ideal) q0 mo kb (ix2 0 q)) := by
  simp only [← score_at]
  pointwise [k0_pay9, k0_pay8, k0_pay7]

/-- The new weighted sum of values. -/
theorem acc_at (d : Fin 128) : k0_pay10 (F := Ideal) q0 mo ao kb vb (ix2 d q)
    = Ideal.exp (mo (ix2 0 q) - k0_pay6 (F := Ideal) q0 mo kb (ix2 0 q)) * ao (ix2 d q)
      + ∑ j : Fin 512, vb (ix3 0 d j) * Ideal.exp ((∑ e : Fin 128, kb (ix3 0 j e) * q0 (ix3 0 e q)) - k0_pay6 (F := Ideal) q0 mo kb (ix2 0 q)) := by
  simp only [← score_at]
  pointwise [k0_pay10, k0_pay8, k0_pay7]

/-- What the head leaves after the last block of keys: the weighted sum times the reciprocal of the sum. -/
theorem last_at (d : Fin 128) (kr : FVec Ideal S1x256x128 .bf16) (vr : FVec Ideal S1x128x256 .bf16) {M : EReal}
    (hM : M = max (mo (ix2 0 q)) (Finset.univ.fold max ⊥ fun j : Fin 256 => ∑ e : Fin 128, kr (ix3 0 j e) * q0 (ix3 0 e q))) :
    k0_pay11 (F := Ideal) q0 mo lo ao kr vr (ix2 q d)
    = (Ideal.exp (mo (ix2 0 q) - M) * ao (ix2 d q)
        + ∑ j : Fin 256, vr (ix3 0 d j) * Ideal.exp ((∑ e : Fin 128, kr (ix3 0 j e) * q0 (ix3 0 e q)) - M))
      * Ideal.div 1 (Ideal.exp (mo (ix2 0 q) - M) * lo (ix2 0 q)
        + ∑ j : Fin 256, Ideal.exp ((∑ e : Fin 128, kr (ix3 0 j e) * q0 (ix3 0 e q)) - M)) := by
  rw [hM, ← ofBits_bot]
  pointwise [k0_pay11, k0_pay1]

end Readings

section Walk

variable (q0 : FVec Ideal S1x128x512 .bf16) (K : FVec Ideal S1x16640x128 .bf16) (V : FVec Ideal S1x128x16640 .bf16)

/-- Block `k` of 512 keys. -/
def keys (k : Fin 32) : FVec Ideal S1x512x128 .bf16 := fun y => K (ix3 0 ⟨512 * k.val + (y 1).val, by have := (y 1).isLt; have := k.isLt; change _ < 512 at *; omega⟩ (y 2))

/-- The values of block `k`. -/
def values (k : Fin 32) : FVec Ideal S1x128x512 .bf16 := fun y => V (ix3 0 (y 1) ⟨512 * k.val + (y 2).val, by have := (y 2).isLt; have := k.isLt; change _ < 512 at *; omega⟩)

/-- The last 256 keys. -/
def lastKeys : FVec Ideal S1x256x128 .bf16 := fun y => K (ix3 0 ⟨16384 + (y 1).val, by have := (y 1).isLt; change _ < 256 at *; omega⟩ (y 2))

/-- The last 256 keys' values. -/
def lastValues : FVec Ideal S1x128x256 .bf16 := fun y => V (ix3 0 (y 1) ⟨16384 + (y 2).val, by have := (y 2).isLt; change _ < 256 at *; omega⟩)

/-- One trip of the walk. -/
def trip (k : Fin 32) (a : State) : State :=
  (k0_pay6 q0 a.1 (keys K k), k0_pay9 q0 a.1 a.2.1 (keys K k), k0_pay10 q0 a.1 a.2.2 (keys K k) (values V k))

/-- The carried triple before trip `n`. -/
def state : ℕ → State
  | 0 => (k0_pay2, k0_pay3, k0_pay4)
  | n + 1 => if h : n < 32 then trip q0 K V ⟨n, h⟩ (state n) else state n

/-- What the head leaves: 512 queries by 128 value rows. -/
def head : FVec Ideal S512x128 .bf16 :=
  k0_pay11 q0 (state q0 K V 32).1 (state q0 K V 32).2.1 (state q0 K V 32).2.2 (lastKeys K) (lastValues V)

variable {q0 K V}

/-- Before trip `n` the triple carries the first `512 n` keys. -/
theorem carried (q : Fin 512) (d : Fin 128) {s : ℕ → ℝ} {v : ℕ → EReal}
    (hs : ∀ k : Fin 16640, ∑ e : Fin 128, K (ix3 0 k e) * q0 (ix3 0 e q) = (s k : EReal)) (hv : ∀ k : Fin 16640, V (ix3 0 d k) = v k) :
    ∀ n ≤ 32, Carries s v (512 * n) ((state q0 K V n).1 (ix2 0 q)) ((state q0 K V n).2.1 (ix2 0 q)) ((state q0 K V n).2.2 (ix2 d q)) := by
  intro n
  induction n with
  | zero =>
    intro _
    obtain ⟨r, hr⟩ := ofBits_start
    have h2 : k0_pay2 (F := Ideal) (ix2 0 q) = (r : EReal) := by pointwise [k0_pay2]; exact hr
    have h3 : k0_pay3 (F := Ideal) (ix2 0 q) = 0 := by pointwise [k0_pay3]
    have h4 : k0_pay4 (F := Ideal) (ix2 d q) = 0 := by pointwise [k0_pay4]
    simp only [state, h2, h3, h4]
    exact carries_zero s v r
  | succ n ih =>
    intro hn
    have hn' : n < 32 := hn
    simp only [state, hn', dif_pos, trip, sum_at, acc_at]
    refine carries_block (ih hn'.le) (fun j => ?_) (fun j => ?_) (max_at _ _ _ _)
    · exact hs ⟨512 * n + j.val, by omega⟩
    · exact hv ⟨512 * n + j.val, by omega⟩

/-- The head's entry is the softmax average of the values, whatever real number `M` the exponents are taken from. -/
theorem head_at (q : Fin 512) (d : Fin 128) {s : ℕ → ℝ} {v : ℕ → EReal}
    (hs : ∀ k : Fin 16640, ∑ e : Fin 128, K (ix3 0 k e) * q0 (ix3 0 e q) = (s k : EReal)) (hv : ∀ k : Fin 16640, V (ix3 0 d k) = v k)
    (M : ℝ) :
    head q0 K V (ix2 q d) = ∑ k : Fin 16640, v k * Ideal.div (Ideal.exp ((s k : EReal) - M))
      (∑ j : Fin 16640, Ideal.exp ((s j : EReal) - M)) := by
  have h := carries_block (carried q d hs hv 32 le_rfl) (b := 256)
    (sb := fun j => ∑ e : Fin 128, lastKeys K (ix3 0 j e) * q0 (ix3 0 e q)) (vb := fun j => lastValues V (ix3 0 d j))
    (fun j => hs ⟨16384 + j.val, by omega⟩) (fun j => hv ⟨16384 + j.val, by omega⟩) rfl
  exact (last_at _ _ _ _ _ _ _ _ rfl).trans (carries_quotient h (by decide) M)

end Walk

end Cert.AttnIdeal.Head

end
-- ==== Proof.Attention.Loop.lean ====
/- The four printed loops are four copies of one walk over the keys: each carries `Head.state` of its own head's
   queries. -/
module

public import proofs.«01_k».proof.Proof.Attention.Step
public import Idealize.ShloMosaic.Lib.Pipeline.ValueKit.Held

@[expose] public section

set_option maxRecDepth 16384

noncomputable section

namespace Cert.AttnIdeal.Head

open Cert.AttnIdeal Cert.AttnIdeal.Gen Idealize.ShloMosaic Idealize.ShloMosaic.TcCoe Idealize.SL.Sem

section Loads

variable (K : Vec Ideal S1x16640x128 .bf16) (V : Vec Ideal S1x128x16640 .bf16)

/-- A load of 512 keys from row `512 k`. -/
theorem ld_keys (k : Fin 32) {off : Fin 3 → ℕ} (h : off = ![0, 512 * k.val, 0])
    (inb : ∀ a, off a + (![1, 512, 128] : Fin 3 → ℕ) a ≤ S1x16640x128.size a) :
    View.ld K (Rect.unit off ![1, 512, 128] inb) = keys K k := by
  subst h
  funext y
  refine View.ld_unit_apply_of K _ _ inb y _ fun a => ?_
  fin_cases a <;> simp

/-- A load of 512 value columns from column `512 k`. -/
theorem ld_values (k : Fin 32) {off : Fin 3 → ℕ} (h : off = ![0, 0, 512 * k.val])
    (inb : ∀ a, off a + (![1, 128, 512] : Fin 3 → ℕ) a ≤ S1x128x16640.size a) :
    View.ld V (Rect.unit off ![1, 128, 512] inb) = values V k := by
  subst h
  funext y
  refine View.ld_unit_apply_of V _ _ inb y _ fun a => ?_
  fin_cases a <;> simp

/-- A trip that works on these two loads is a trip of the walk. -/
theorem trip_of_loads (q0 : Vec Ideal S1x128x512 .bf16) (k : Fin 32) (a : State) {kb : FVec Ideal S1x512x128 .bf16}
    {vb : FVec Ideal S1x128x512 .bf16} (hk : kb = keys K k) (hv : vb = values V k) :
    (k0_pay6 q0 a.1 kb, k0_pay9 q0 a.1 a.2.1 kb, k0_pay10 q0 a.1 a.2.2 kb vb) = trip q0 K V k a := by
  subst hk hv
  rfl

end Loads

/-- Where trip `k` of each loop loads from. -/
theorem places1 : ∀ k : Fin k0_t1_loop.trips, k0_off1 k = ![0, 512 * k.val, 0] ∧ k0_off2 k = ![0, 0, 512 * k.val] := by decide +kernel
theorem places2 : ∀ k : Fin k0_t2_loop.trips, k0_off3 k = ![0, 512 * k.val, 0] ∧ k0_off4 k = ![0, 0, 512 * k.val] := by decide +kernel
theorem places3 : ∀ k : Fin k0_t3_loop.trips, k0_off5 k = ![0, 512 * k.val, 0] ∧ k0_off6 k = ![0, 0, 512 * k.val] := by decide +kernel
theorem places4 : ∀ k : Fin k0_t4_loop.trips, k0_off7 k = ![0, 512 * k.val, 0] ∧ k0_off8 k = ![0, 0, 512 * k.val] := by decide +kernel

section Loops

variable (𝒱 : Variants) (c : Dev nD) (bd : Option 𝒱.V) (i : grid0.Coords)
  (a2 : Memref sig .tc .vmem S4x128x512 .bf16) (h2 : a2.IsWhole) (a3 : Memref sig .tc .vmem S1x16640x128 .bf16) (h3 : a3.IsWhole)
  (a4 : Memref sig .tc .vmem S1x128x16640 .bf16) (h4 : a4.IsWhole) (a5 : Memref sig .tc .vmem S512x512 .bf16) (h5 : a5.IsWhole)
  (w : FVec Ideal S512x128 .bf16) (q0 : Vec Ideal S1x128x512 .bf16) (K : Vec Ideal S1x16640x128 .bf16) (V : Vec Ideal S1x128x16640 .bf16)

/-- The first head's loop. -/
theorem loop1 : ∀ n ≤ 32, st_k0_t1 (F := Ideal) 𝒱 c bd i a2 h2 a3 h3 a4 h4 a5 h5 q0 (h3.unread K) (h4.unread V)
    (k0_pay2, k0_pay3, k0_pay4) n = state q0 K V n := by
  intro n
  induction n with
  | zero => intro _; rfl
  | succ n ih =>
    intro hn
    have hn' : n < 32 := hn
    refine (st_k0_t1_succ 𝒱 c bd i a2 h2 a3 h3 a4 h4 a5 h5 q0 _ _ _ ⟨n, hn'⟩).trans ?_
    rw [ih hn'.le]
    simp only [state, hn', dif_pos]
    unfold tripR_k0_t1 trip_k0_t1
    dsimp only
    simp only [View.readAt_eq_ld, h3.read_unread, h4.read_unread]
    exact trip_of_loads K V q0 ⟨n, hn'⟩ _ (ld_keys K _ (places1 ⟨n, hn'⟩).1 _) (ld_values V _ (places1 ⟨n, hn'⟩).2 _)

/-- The second head's loop. -/
theorem loop2 : ∀ n ≤ 32, st_k0_t2 (F := Ideal) 𝒱 c bd i a2 h2 a3 h3 a4 h4 a5 h5 w q0 (h3.unread K) (h4.unread V)
    (k0_pay13, k0_pay14, k0_pay15) n = state q0 K V n := by
  intro n
  induction n with
  | zero => intro _; rfl
  | succ n ih =>
    intro hn
    have hn' : n < 32 := hn
    refine (st_k0_t2_succ 𝒱 c bd i a2 h2 a3 h3 a4 h4 a5 h5 w q0 _ _ _ ⟨n, hn'⟩).trans ?_
    rw [ih hn'.le]
    simp only [state, hn', dif_pos]
    unfold tripR_k0_t2 trip_k0_t2
    dsimp only
    simp only [View.readAt_eq_ld, h3.read_unread, h4.read_unread]
    exact trip_of_loads K V q0 ⟨n, hn'⟩ _ (ld_keys K _ (places2 ⟨n, hn'⟩).1 _) (ld_values V _ (places2 ⟨n, hn'⟩).2 _)

/-- The third head's loop. -/
theorem loop3 : ∀ n ≤ 32, st_k0_t3 (F := Ideal) 𝒱 c bd i a2 h2 a3 h3 a4 h4 a5 h5 w q0 (h3.unread K) (h4.unread V)
    (k0_pay24, k0_pay25, k0_pay26) n = state q0 K V n := by
  intro n
  induction n with
  | zero => intro _; rfl
  | succ n ih =>
    intro hn
    have hn' : n < 32 := hn
    refine (st_k0_t3_succ 𝒱 c bd i a2 h2 a3 h3 a4 h4 a5 h5 w q0 _ _ _ ⟨n, hn'⟩).trans ?_
    rw [ih hn'.le]
    simp only [state, hn', dif_pos]
    unfold tripR_k0_t3 trip_k0_t3
    dsimp only
    simp only [View.readAt_eq_ld, h3.read_unread, h4.read_unread]
    exact trip_of_loads K V q0 ⟨n, hn'⟩ _ (ld_keys K _ (places3 ⟨n, hn'⟩).1 _) (ld_values V _ (places3 ⟨n, hn'⟩).2 _)

/-- The fourth head's loop. -/
theorem loop4 : ∀ n ≤ 32, st_k0_t4 (F := Ideal) 𝒱 c bd i a2 h2 a3 h3 a4 h4 a5 h5 w q0 (h3.unread K) (h4.unread V)
    (k0_pay35, k0_pay36, k0_pay37) n = state q0 K V n := by
  intro n
  induction n with
  | zero => intro _; rfl
  | succ n ih =>
    intro hn
    have hn' : n < 32 := hn
    refine (st_k0_t4_succ 𝒱 c bd i a2 h2 a3 h3 a4 h4 a5 h5 w q0 _ _ _ ⟨n, hn'⟩).trans ?_
    rw [ih hn'.le]
    simp only [state, hn', dif_pos]
    unfold tripR_k0_t4 trip_k0_t4
    dsimp only
    simp only [View.readAt_eq_ld, h3.read_unread, h4.read_unread]
    exact trip_of_loads K V q0 ⟨n, hn'⟩ _ (ld_keys K _ (places4 ⟨n, hn'⟩).1 _) (ld_values V _ (places4 ⟨n, hn'⟩).2 _)

end Loops

end Cert.AttnIdeal.Head

end
-- ==== Proof.Attention.Block.lean ====
/- What one grid point leaves: four heads side by side. -/
module

public import proofs.«01_k».proof.Proof.Attention.Loop
public import Idealize.ShloMosaic.Lib.Pipeline.ReadBack

@[expose] public section

set_option maxRecDepth 16384

noncomputable section

namespace Cert.AttnIdeal.Result

open Cert.AttnIdeal Cert.AttnIdeal.Gen Cert.AttnIdeal.Head Idealize.ShloMosaic Idealize.ShloMosaic.TcCoe Idealize.SL.Sem
open Idealize.ShloMosaic.Pipeline (Dat)

variable (m : (ℓ : Loc nD τ sig) → Buf (Elt Ideal) ℓ)

/-- The number of trips as the programs print it. -/
theorem trips_eq : Scf.trips (0#32) (Scalar.addi 0#32 32#32) 1#32 = 32 := by decide +kernel

/-- The queries of head `h` of a block. -/
def queries (Q : Vec Ideal S4x128x512 .bf16) (h : Fin 4) : Vec Ideal S1x128x512 .bf16 := fun y => Q (ix3 h (y 1) (y 2))

/-- A load of one head's queries. -/
theorem ld_queries (Q : Vec Ideal S4x128x512 .bf16) (n : Fin 4) {off : Fin 3 → ℕ} (e : off = ![n.val, 0, 0])
    (inb : ∀ a, off a + (![1, 128, 512] : Fin 3 → ℕ) a ≤ S4x128x512.size a) :
    View.ld Q (Rect.unit off ![1, 128, 512] inb) = queries Q n := by
  subst e
  funext y
  refine View.ld_unit_apply_of Q _ _ inb y _ fun a => ?_
  have y0 : (y 0).val = 0 := Nat.lt_one_iff.mp (y 0).isLt
  fin_cases a <;> simp [y0]

/-- The load of the last 256 keys. -/
theorem ld_lastKeys (K : Vec Ideal S1x16640x128 .bf16)
    (inb : ∀ a, (![0, 16384, 0] : Fin 3 → ℕ) a + (![1, 256, 128] : Fin 3 → ℕ) a ≤ S1x16640x128.size a) :
    View.ld K (Rect.unit ![0, 16384, 0] ![1, 256, 128] inb) = lastKeys K := by
  funext y
  refine View.ld_unit_apply_of K _ _ inb y _ fun a => ?_
  fin_cases a <;> simp

/-- The load of their values. -/
theorem ld_lastValues (V : Vec Ideal S1x128x16640 .bf16)
    (inb : ∀ a, (![0, 0, 16384] : Fin 3 → ℕ) a + (![1, 128, 256] : Fin 3 → ℕ) a ≤ S1x128x16640.size a) :
    View.ld V (Rect.unit ![0, 0, 16384] ![1, 128, 256] inb) = lastValues V := by
  funext y
  refine View.ld_unit_apply_of V _ _ inb y _ fun a => ?_
  fin_cases a <;> simp

/-- Two places in a head's tile with the same coordinates hold the same entry. -/
theorem head_congr {Q : Vec Ideal S4x128x512 .bf16} {K : Vec Ideal S1x16640x128 .bf16} {V : Vec Ideal S1x128x16640 .bf16}
    {n n' : Fin 4} {x x' : S512x128.Idx} (hn : n.val = n'.val) (h0 : (x 0).val = (x' 0).val) (h1 : (x 1).val = (x' 1).val) :
    head (queries Q n) K V x = head (queries Q n') K V x' := by
  obtain rfl := Fin.ext hn
  obtain rfl : x = x' := funext fun a => by
    fin_cases a
    · exact Fin.ext h0
    · exact Fin.ext h1
  rfl

/-- Column `128 n + d` of a block is column `d` of head `n`. -/
theorem block (c : Dev nD) (t : Fin cfg0.N) (q : Fin 512) (n : Fin 4) (d : Fin 128) (y : S512x512.Idx)
    (e0 : (y 0).val = q.val) (e1 : (y 1).val = n.val * 128 + d.val) :
    outsAt0 m c t y = head (queries (iblk m c 0 t) n) (iblk m c 1 t) (iblk m c 2 t) (ix2 q d) := by
  unfold outsAt0
  frame_out
  simp only [loop1, loop2, loop3, loop4, trips_eq, le_refl, ld_lastKeys, ld_lastValues]
  rw [ld_queries (off := ![0, 0, 0]) _ 0 rfl, ld_queries (off := ![1, 0, 0]) _ 1 rfl, ld_queries (off := ![2, 0, 0]) _ 2 rfl,
    ld_queries (off := ![3, 0, 0]) _ 3 rfl]
  canon_tiles x h
  · exact head_congr (n := 3) (by change 3 = n.val; omega) (h0.symm.trans e0) (by change _ = d.val; omega)
  · exact head_congr (n := 2) (by change 2 = n.val; omega) (h0.symm.trans e0) (by change _ = d.val; omega)
  · exact head_congr (n := 1) (by change 1 = n.val; omega) (h0.symm.trans e0) (by change _ = d.val; omega)
  · exact head_congr (n := 0) (by change 0 = n.val; omega) (h0.symm.trans e0) (by change _ = d.val; omega)

end Cert.AttnIdeal.Result

end
-- ==== Proof.Attention.Reference.lean ====
/- The reference's attention, entry by entry: scores, the row's maximum, exponentials, quotients, and the weighted sum
   of the values. -/
module

public import proofs.«01_k».proof.Proof.Gen.AttnRefIdeal.Read
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.AttnRefIdeal.Softmax

open Cert.AttnRefIdeal Cert.AttnRefIdeal.Gen Cert.AttnRefIdeal.Read Idealize.ShloMosaic Idealize.ShloMosaic.TcCoe

variable (x0 : FVec Ideal S8x128x16384 .bf16) (x1 : FVec Ideal S2x16384x128 .bf16) (x2 : FVec Ideal S2x256x128 .bf16)
  (x3 : FVec Ideal S2x128x16384 .bf16) (x4 : FVec Ideal S2x128x256 .bf16)
  (g : Fin 2) (h : Fin 4) (q : Fin 16384) (k : Fin 16640) (d : Fin 128)

/-- Entry `d` of key `k` of group `g`: the image's keys, then the context's. -/
def key : EReal := if hk : k.val < 16384 then x1 (ix3 g ⟨k.val, hk⟩ d) else x2 (ix3 g ⟨k.val - 16384, by omega⟩ d)

/-- Entry `d` of value `k` of group `g`: the image's values, then the context's. -/
def value : EReal := if hk : k.val < 16384 then x3 (ix3 g d ⟨k.val, hk⟩) else x4 (ix3 g d ⟨k.val - 16384, by omega⟩)

/-- The score of key `k` against query `q` of head `h` of group `g`. -/
def score : EReal := ∑ d : Fin 128, key x1 x2 g k d * x0 (ix3 ⟨4 * g.val + h.val, by omega⟩ d q)

theorem keys_at : val_main_v15 (F := Ideal) x1 x2 (ix4 0 k g d) = key x1 x2 g k d := by
  pointwise [val_main_v15, val_main_v5, val_main_v4, val_main_v3, val_main_v8, val_main_v7, val_main_v6]
  rfl

theorem values_at : val_main_v16 (F := Ideal) x3 x4 (ix4 0 k g d) = value x3 x4 g k d := by
  pointwise [val_main_v16, val_main_v11, val_main_v10, val_main_v9, val_main_v14, val_main_v13, val_main_v12]
  rfl

theorem queries_at : val_main_v17 (F := Ideal) x0 (ix5 0 q g h d) = x0 (ix3 ⟨4 * g.val + h.val, by omega⟩ d q) := by
  pointwise [val_main_v17, val_main_v2, val_main_v1, val_main_v0]
  congr 2
  exact Fin.ext (by simp only; omega)

theorem scores_at : val_main_v19 (F := Ideal) x0 x1 x2 (ix5 0 g h q k) = score x0 x1 x2 g h q k := by
  rw [val_main_v19_apply, val_main_v18_apply, score]
  simp only [← keys_at, ← queries_at]
  generalize val_main_v15 (F := Ideal) x1 x2 = a
  generalize val_main_v17 (F := Ideal) x0 = b
  refine Finset.sum_congr rfl fun d _ => ?_
  congr 2 <;> funext i <;> fin_cases i <;> rfl

/-- The constant the maximum is folded from is −∞. -/
theorem ofBits_bot : Ideal.ofBits .f32 4286578688#32 = (⊥ : EReal) := by simp [Ideal.ofBits, Ideal.ieee]

/-- A maximum over the last axis, at one row. -/
theorem reduce_at (y : FVec Ideal S1x2x4x16384x16640 .f32) :
    Host.reduce FloatOps.maximumf y (constant S_ .f32 0xFF800000#32) reducesTo_S1x2x4x16384x16640_S1x2x4x16384_d4 h_S_ (ix4 0 g h q)
    = Finset.univ.fold max ⊥ fun k : Fin 16640 => y (ix5 0 g h q k) := by
  clean_types
  pointwise []
  rw [ofBits_bot]

/-- A maximum with −∞ changes nothing. -/
theorem clamp_at (y : FVec Ideal S1x2x4x16384 .f32) :
    maximumf (broadcastInDim S1x2x4x16384 ![] bcast_S_S1x2x4x16384 (constant S_ .f32 0xFF800000#32)) y (ix4 0 g h q) = y (ix4 0 g h q) := by
  pointwise []
  rw [ofBits_bot]
  exact max_eq_right bot_le

theorem max_at : val_main_v22 (F := Ideal) x0 x1 x2 (ix4 0 g h q) = Finset.univ.fold max ⊥ fun k : Fin 16640 => score x0 x1 x2 g h q k := by
  simp only [← scores_at]
  exact (clamp_at g h q _).trans (reduce_at g h q _)

theorem exp_at : val_main_v26 (F := Ideal) x0 x1 x2 (ix5 0 g h q k)
    = Ideal.exp (score x0 x1 x2 g h q k - val_main_v22 (F := Ideal) x0 x1 x2 (ix4 0 g h q)) := by
  rw [← scores_at]
  unfold val_main_v26 val_main_v25 val_main_v24 val_main_v23
  generalize val_main_v19 (F := Ideal) x0 x1 x2 = y
  generalize val_main_v22 (F := Ideal) x0 x1 x2 = z
  pointwise []

theorem quotient_at : val_main_v30 (F := Ideal) x0 x1 x2 (ix5 0 g h q k)
    = Ideal.div (val_main_v26 (F := Ideal) x0 x1 x2 (ix5 0 g h q k)) (∑ j : Fin 16640, val_main_v26 (F := Ideal) x0 x1 x2 (ix5 0 g h q j)) := by
  unfold val_main_v30 val_main_v29 val_main_v28 val_main_v27 val_main_cst_1
  generalize val_main_v26 (F := Ideal) x0 x1 x2 = y
  pointwise []

theorem average_at : val_main_v35 (F := Ideal) x0 x1 x2 x3 x4 (ix2 q ⟨(4 * g.val + h.val) * 128 + d.val, by omega⟩)
    = ∑ k : Fin 16640, val_main_v16 (F := Ideal) x3 x4 (ix4 0 k g d) * val_main_v30 (F := Ideal) x0 x1 x2 (ix5 0 g h q k) := by
  unfold val_main_v35 val_main_v34 val_main_v33 val_main_v32 val_main_v31
  generalize val_main_v16 (F := Ideal) x3 x4 = a
  generalize val_main_v30 (F := Ideal) x0 x1 x2 = b
  pointwise []

/-- One entry of the reference's result, when the row's maximum is `M`. -/
theorem result_at {M : EReal} (hM : (Finset.univ.fold max ⊥ fun k : Fin 16640 => score x0 x1 x2 g h q k) = M) :
    val_main_v35 (F := Ideal) x0 x1 x2 x3 x4 (ix2 q ⟨(4 * g.val + h.val) * 128 + d.val, by omega⟩)
    = ∑ k : Fin 16640, value x3 x4 g k d * Ideal.div (Ideal.exp (score x0 x1 x2 g h q k - M))
        (∑ j : Fin 16640, Ideal.exp (score x0 x1 x2 g h q j - M)) := by
  rw [average_at]
  simp only [quotient_at, exp_at, values_at, max_at, hM]

end Cert.AttnRefIdeal.Softmax

end
-- ==== Proof.Attention.Result.lean ====
/- The result array of the attention: every block's entries are the reference's, when queries and keys are real. -/
module

public import proofs.«01_k».proof.Proof.Attention.Block
public import proofs.«01_k».proof.Proof.Attention.Reference

@[expose] public section

set_option maxRecDepth 16384

noncomputable section

namespace Cert.AttnIdeal.Result

open Cert.AttnIdeal Cert.AttnIdeal.Gen Cert.AttnIdeal.Head Idealize.ShloMosaic Idealize.ShloMosaic.TcCoe Idealize.SL.Sem
open Idealize.ShloMosaic.Pipeline (Dat)
open Cert.AttnRefIdeal.Softmax (key value score)

variable (m : (ℓ : Loc nD τ sig) → Buf (Elt Ideal) ℓ)

/-- Where each window's block lies at point `t`. -/
theorem places : ∀ t : Fin cfg0.N, win0_0.index t = ![t.val / 32, 0, t.val % 32] ∧ win0_1.index t = ![t.val / 32, 0, 0]
    ∧ win0_2.index t = ![t.val / 32, 0, 0] ∧ win0_3.index t = ![t.val % 32, t.val / 32] :=
  (by decide +kernel : ∀ t : Fin grid0.N, _)

/-- The number of grid points. -/
theorem points : cfg0.N = 64 := by decide +kernel

/-- The group of heads that point `t` works on. -/
def group (t : Fin cfg0.N) : Fin 2 := ⟨t.val / 32, by have := lt_of_lt_of_eq t.isLt points; omega⟩

/-- Row `q` of point `t`'s block, as a row of the array. -/
def row (t : Fin cfg0.N) (q : Fin 512) : Fin 16384 := ⟨t.val % 32 * 512 + q.val, by omega⟩

theorem queries_at (c : Dev nD) (t : Fin cfg0.N) (n : Fin 4) (e : Fin 128) (q : Fin 512) :
    queries (iblk m c 0 t) n (ix3 0 e q)
    = (m ((c : Thread nD τ).loc main_arg0) : FVec Ideal S8x128x16384 .bf16) (ix3 ⟨4 * (group t).val + n.val, by omega⟩ e (row t q)) := by
  change (iblk m c 0 t : Vec Ideal S4x128x512 .bf16) (ix3 n e q) = _
  blk_point [iblk, V, places t, group, row]

/-- The keys the kernel is given: the image's, then the context's. -/
theorem entry_keys (c : Dev nD) : V m c main_v0 = concatenate S2x16640x128 1
    [⟨S2x16384x128, (m ((c : Thread nD τ).loc main_arg1) : FVec Ideal S2x16384x128 .bf16)⟩,
      ⟨S2x256x128, (m ((c : Thread nD τ).loc main_arg2) : FVec Ideal S2x256x128 .bf16)⟩]
    concatenates_S2x16384x128_S2x256x128_S2x16640x128_d1 := by
  entry_read
  rfl

/-- The values the kernel is given: the image's, then the context's. -/
theorem entry_values (c : Dev nD) : V m c main_v1 = concatenate S2x128x16640 2
    [⟨S2x128x16384, (m ((c : Thread nD τ).loc main_arg3) : FVec Ideal S2x128x16384 .bf16)⟩,
      ⟨S2x128x256, (m ((c : Thread nD τ).loc main_arg4) : FVec Ideal S2x128x256 .bf16)⟩]
    concatenates_S2x128x16384_S2x128x256_S2x128x16640_d2 := by
  entry_read
  rfl

theorem joined_keys (a : FVec Ideal S2x16384x128 .bf16) (b : FVec Ideal S2x256x128 .bf16) (g : Fin 2) (k : Fin 16640) (e : Fin 128) :
    concatenate S2x16640x128 1 [⟨S2x16384x128, a⟩, ⟨S2x256x128, b⟩] concatenates_S2x16384x128_S2x256x128_S2x16640x128_d1 (ix3 g k e)
    = key a b g k e := by
  pointwise []
  rfl

theorem joined_values (a : FVec Ideal S2x128x16384 .bf16) (b : FVec Ideal S2x128x256 .bf16) (g : Fin 2) (k : Fin 16640) (e : Fin 128) :
    concatenate S2x128x16640 2 [⟨S2x128x16384, a⟩, ⟨S2x128x256, b⟩] concatenates_S2x128x16384_S2x128x256_S2x128x16640_d2 (ix3 g e k)
    = value a b g k e := by
  pointwise []
  rfl

theorem keys_at (c : Dev nD) (t : Fin cfg0.N) (k : Fin 16640) (e : Fin 128) :
    (iblk m c 1 t : Vec Ideal S1x16640x128 .bf16) (ix3 0 k e)
    = key (m ((c : Thread nD τ).loc main_arg1)) (m ((c : Thread nD τ).loc main_arg2)) (group t) k e := by
  rw [← joined_keys, ← entry_keys]
  generalize hv : V m c main_v0 = v
  blk_point [iblk, hv, places t, group]

theorem values_at (c : Dev nD) (t : Fin cfg0.N) (k : Fin 16640) (e : Fin 128) :
    (iblk m c 2 t : Vec Ideal S1x128x16640 .bf16) (ix3 0 e k)
    = value (m ((c : Thread nD τ).loc main_arg3)) (m ((c : Thread nD τ).loc main_arg4)) (group t) k e := by
  rw [← joined_values, ← entry_values]
  generalize hv : V m c main_v1 = v
  blk_point [iblk, hv, places t, group]

section Finite

variable (c : Dev nD)
  (real0 : ∀ (i : Fin 8) (j : Fin 128) (k : Fin 16384), ∃ r : ℝ, (m ((c : Thread nD τ).loc main_arg0) : FVec Ideal S8x128x16384 .bf16) (ix3 i j k) = (r : EReal))
  (real1 : ∀ (i : Fin 2) (j : Fin 16384) (k : Fin 128), ∃ r : ℝ, (m ((c : Thread nD τ).loc main_arg1) : FVec Ideal S2x16384x128 .bf16) (ix3 i j k) = (r : EReal))
  (real2 : ∀ (i : Fin 2) (j : Fin 256) (k : Fin 128), ∃ r : ℝ, (m ((c : Thread nD τ).loc main_arg2) : FVec Ideal S2x256x128 .bf16) (ix3 i j k) = (r : EReal))

include real1 real2 in
/-- Every key is real. -/
theorem key_real (g : Fin 2) (k : Fin 16640) (d : Fin 128) :
    ∃ r : ℝ, key (m ((c : Thread nD τ).loc main_arg1)) (m ((c : Thread nD τ).loc main_arg2)) g k d = (r : EReal) := by
  unfold key
  split
  · exact real1 _ _ _
  · exact real2 _ _ _

include real0 real1 real2 in
/-- Every score is real: a finite sum of products of real numbers. -/
theorem score_real (g : Fin 2) (h : Fin 4) (q : Fin 16384) (k : Fin 16640) :
    ∃ r : ℝ, score (m ((c : Thread nD τ).loc main_arg0)) (m ((c : Thread nD τ).loc main_arg1)) (m ((c : Thread nD τ).loc main_arg2)) g h q k
      = (r : EReal) := by
  choose f hf using fun d => key_real m c real1 real2 g k d
  choose f' hf' using fun d => real0 ⟨4 * g.val + h.val, by omega⟩ d q
  refine ⟨∑ d, f d * f' d, ?_⟩
  rw [Cert.Softmax.sum_real, score]
  exact Finset.sum_congr rfl fun d _ => by rw [hf, hf', EReal.coe_mul]

include real0 real1 real2 in
/-- One entry of a block is the reference's entry at its place. -/
theorem entry (t : Fin cfg0.N) (q : Fin 512) (n : Fin 4) (d : Fin 128) :
    head (queries (iblk m c 0 t) n) (iblk m c 1 t) (iblk m c 2 t) (ix2 q d)
    = Cert.AttnRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 (row t q) ⟨(4 * (group t).val + n.val) * 128 + d.val, by omega⟩) := by
  choose s hs using fun k => score_real m c real0 real1 real2 (group t) n (row t q) k
  obtain ⟨M, hM⟩ := Cert.Softmax.fold_max_real s
  rw [Cert.AttnRefIdeal.Softmax.result_at _ _ _ _ _ _ _ _ _ (M := M) (by simp only [hs]; exact hM)]
  simp only [hs]
  have h := head_at (q0 := queries (iblk m c 0 t) n) (K := iblk m c 1 t) (V := iblk m c 2 t) q d
    (s := fun k => if hk : k < 16640 then s ⟨k, hk⟩ else 0)
    (v := fun k => if hk : k < 16640 then value (m ((c : Thread nD τ).loc main_arg3)) (m ((c : Thread nD τ).loc main_arg4)) (group t) ⟨k, hk⟩ d else 0)
    (fun k => by
      simp only [k.isLt, dif_pos, Fin.eta, ← hs, score]
      exact Finset.sum_congr rfl fun e _ => by rw [keys_at, queries_at])
    (fun k => by
      simp only [k.isLt, dif_pos, Fin.eta]
      exact values_at m c t k d) M
  simp only [Fin.is_lt, dif_pos, Fin.eta] at h
  exact h

include real0 real1 real2 in
/-- The result array after the run is the reference's. -/
theorem result : (dats m 0 c).arrAt 3 (cfgs 0).N
    = Cert.AttnRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 3 _ (by decide +kernel) fun t _ y => ?_
  generalize hz : ((cfg0.win 3).blk t).view.emb y = z
  have h0 : (z 0).val = t.val % 32 * 512 + (y 0).val := by rw [← hz]; blk_simp [places t]
  have h1 : (z 1).val = t.val / 32 * 512 + (y 1).val := by rw [← hz]; blk_simp [places t]
  blk_simp
  rw [after0_3]
  have y0 : (y 0).val < 512 := (y 0).isLt
  have y1 : (y 1).val < 512 := (y 1).isLt
  refine (block m c t ⟨(y 0).val, y0⟩ ⟨(y 1).val / 128, by omega⟩ ⟨(y 1).val % 128, by omega⟩ y rfl
    (by simp only; omega)).trans ((entry m c real0 real1 real2 t _ _ _).trans ?_)
  refine congrArg _ (funext fun a => ?_)
  fin_cases a
  · exact Fin.ext h0.symm
  · refine Fin.ext (Eq.trans ?_ h1.symm)
    change (4 * (t.val / 32) + (y 1).val / 128) * 128 + (y 1).val % 128 = _
    omega

end Finite

end Cert.AttnIdeal.Result

end
-- ==== Proof.Attention.Finite.lean ====
/- The precondition, entry by entry: every query and every key is a real number. -/
module

public import proofs.«01_k».proof.Proof.Gen.Pre_finite_queries_and_keys
public import Idealize.ShloMosaic.Lib.Pipeline.ValueKit
public import Idealize.ShloMosaic.Lib.Pointwise

@[expose] public section

noncomputable section

namespace Cert.Attention

open Idealize.ShloMosaic

/-- The constant the entries are compared with is +∞. -/
theorem ofBits_top : Ideal.ofBits .f32 2139095040#32 = (⊤ : EReal) := by simp [Ideal.ofBits, Ideal.ieee]

/-- An extended real whose absolute value is below +∞ is a real number. -/
theorem real_of_lt {z : EReal} (lt : max z (-z) < ⊤) : ∃ r : ℝ, z = (r : EReal) := by
  induction z with
  | bot => simp at lt
  | top => simp at lt
  | coe r => exact ⟨r, rfl⟩

/-- The same, from the comparison's bit. -/
theorem real_of_bit (z : EReal) [Decidable (max z (-z) < ⊤)] (h : BitVec.ofBool (decide (max z (-z) < ⊤)) = 1#1) :
    ∃ r : ℝ, z = (r : EReal) := by
  by_cases lt : max z (-z) < ⊤
  · exact real_of_lt lt
  · rw [decide_eq_false lt] at h
    exact absurd h (by decide)

section

open Cert.Pre_finite_queries_and_keys

variable [Facts] (x0 : FVec Ideal S8x128x16384 .bf16) (x1 : FVec Ideal S2x16384x128 .bf16) (x2 : FVec Ideal S2x256x128 .bf16)
    (x3 : FVec Ideal S2x128x16384 .bf16) (x4 : FVec Ideal S2x128x256 .bf16)

/-- The queries. -/
theorem real_queries (h : (fn (F := Ideal) x0 x1 x2 x3 x4).1 = fun _ => 1#1) (i : Fin 8) (j : Fin 128) (k : Fin 16384) :
    ∃ r : ℝ, x0 (ix3 i j k) = (r : EReal) := by
  have e := congrFun h (ix3 i j k)
  revert e
  pointwise [fn]
  rw [ofBits_top]
  exact real_of_bit _

/-- The image's keys. -/
theorem real_keys (h : (fn (F := Ideal) x0 x1 x2 x3 x4).2.1 = fun _ => 1#1) (i : Fin 2) (j : Fin 16384) (k : Fin 128) :
    ∃ r : ℝ, x1 (ix3 i j k) = (r : EReal) := by
  have e := congrFun h (ix3 i j k)
  revert e
  pointwise [fn]
  rw [ofBits_top]
  exact real_of_bit _

/-- The context's keys. -/
theorem real_contextKeys (h : (fn (F := Ideal) x0 x1 x2 x3 x4).2.2 = fun _ => 1#1) (i : Fin 2) (j : Fin 256) (k : Fin 128) :
    ∃ r : ℝ, x2 (ix3 i j k) = (r : EReal) := by
  have e := congrFun h (ix3 i j k)
  revert e
  pointwise [fn]
  rw [ofBits_top]
  exact real_of_bit _

end

end Cert.Attention

end
-- ==== Proof.Attention.lean ====
/- The equation of the attention: the kernel's run and the reference's run end with the same array, when every query and
   every key is a finite number. -/
module

public import proofs.«01_k».proof.Defs
public import proofs.«01_k».proof.Proof.Gen.AttnIdeal.Frame
public import proofs.«01_k».proof.Proof.Gen.AttnRefIdeal.Run
public import proofs.«01_k».proof.Proof.Attention.Result
public import proofs.«01_k».proof.Proof.Attention.Finite
public import Idealize.ShloMosaic.Lib.Claim

@[expose] public section

set_option maxRecDepth 16384

noncomputable section

namespace Cert.Attention

open Idealize.ShloMosaic Idealize.SL.Sem

/-- The reference's result is what the kernel's run leaves, from arguments that agree. -/
theorem same (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ)
    [Cert.Pre_finite_queries_and_keys.Facts] (hpre : Cert.Pre_AttnIdeal_finite_queries_and_keys m) (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (h3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3))
    (h4 : m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) :
    Cert.AttnRefIdeal.Value.res_main_v35 m' c = (Cert.AttnIdeal.Gen.dats m 0 c).arrAt 3 (Cert.AttnIdeal.cfgs 0).N := by
  obtain ⟨p0, p1, p2⟩ := hpre c
  rw [Cert.AttnRefIdeal.Read.val_main_v35_eq, h0, h1, h2, h3, h4]
  exact (Cert.AttnIdeal.Result.result m c (real_queries _ _ _ _ _ p0) (real_keys _ _ _ _ _ p1) (real_contextKeys _ _ _ _ _ p2)).symm

/-- The attention: the kernel and the reference end with the same result. -/
theorem attn : Cert.algebraic_AttnIdeal_AttnRefIdeal_pre_finite_queries_and_keys := by
  pair_intro
  · run_from Cert.AttnIdeal.Gen.run_main m g
  · refine (θ_run _ _ _).mono (fun r h c => ?_) (Cert.AttnRefIdeal.Value.run m' g')
    obtain ⟨h0, h1, h2, h3, h4⟩ := hagree c
    exact ⟨(h c).1.trans (same m m' hpre c h0 h1 h2 h3 h4), (h c).2⟩

end Cert.Attention

end
-- ==== Proof.lean ====
/- The claims of the twelve calls: each kernel and its reading over the extended reals run and leave their arguments and
   semaphores as they were, so does each reference, and each kernel's result is its reference's. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnAct.Frame
public import proofs.«01_k».proof.Proof.Gen.FfnActIdeal.Frame
public import proofs.«01_k».proof.Proof.Gen.FfnActRefIdeal.Run
public import proofs.«01_k».proof.Proof.Gen.ConvMixer.Frame
public import proofs.«01_k».proof.Proof.Gen.ConvMixerIdeal.Frame
public import proofs.«01_k».proof.Proof.Gen.ConvMixerRefIdeal.Run
public import proofs.«01_k».proof.Proof.Gen.HeadQueries.Frame
public import proofs.«01_k».proof.Proof.Gen.HeadQueriesIdeal.Frame
public import proofs.«01_k».proof.Proof.Gen.HeadQueriesRefIdeal.Run
public import proofs.«01_k».proof.Proof.Gen.Modulation.Frame
public import proofs.«01_k».proof.Proof.Gen.ModulationIdeal.Frame
public import proofs.«01_k».proof.Proof.Gen.ModulationRefIdeal.Run
public import proofs.«01_k».proof.Proof.Gen.HeadKeys.Frame
public import proofs.«01_k».proof.Proof.Gen.HeadKeysIdeal.Frame
public import proofs.«01_k».proof.Proof.Gen.HeadKeysRefIdeal.Run
public import proofs.«01_k».proof.Proof.Gen.HeadValues.Frame
public import proofs.«01_k».proof.Proof.Gen.HeadValuesIdeal.Frame
public import proofs.«01_k».proof.Proof.Gen.HeadValuesRefIdeal.Run
public import proofs.«01_k».proof.Proof.Projections
public import proofs.«01_k».proof.Proof.Operands
public import proofs.«01_k».proof.Proof.Preparations
public import proofs.«01_k».proof.Proof.Attention
public import proofs.«01_k».proof.Proof.Gen.Pre_finite_queries_and_keys
public import Idealize.ShloMosaic.Adequacy
public import Idealize.ShloMosaic.Init
public import Idealize.ShloMosaic.Lib.Claim

@[expose] public section

set_option maxRecDepth 16384

noncomputable section

open Idealize.ShloMosaic Idealize.SL.Sem

namespace Cert.Reference

/-- The reference of the attention ends, its arguments unchanged. -/
theorem attn : Cert.quiescent_AttnRefIdeal := by
  intro m g _
  refine (θ_run _ _ _).mono (fun r h => ?_) (Cert.AttnRefIdeal.Value.run m g)
  exact ⟨fun c => (h c).2, sem_eq_zero_of_no_sems (by decide) r.2⟩

/-- The reference of the attention, under the precondition, ends, its arguments unchanged. -/
theorem attnFinite : Cert.quiescent_AttnRefIdeal_pre_finite_queries_and_keys := by
  intro m g _
  refine (θ_run _ _ _).mono (fun r h => ?_) (Cert.AttnRefIdeal.Value.run m g)
  exact ⟨fun c => (h c).2, sem_eq_zero_of_no_sems (by decide) r.2⟩

/-- The reference of the input projection ends, its arguments unchanged. -/
theorem inProj : Cert.quiescent_InProjRefIdeal := by
  intro m g _
  refine (θ_run _ _ _).mono (fun r h => ?_) (Cert.InProjRefIdeal.Value.run m g)
  exact ⟨fun c => (h c).2, sem_eq_zero_of_no_sems (by decide) r.2⟩

/-- The reference of the feed-forward up projection ends, its arguments unchanged. -/
theorem ffnUp : Cert.quiescent_FfnUpRefIdeal := by
  intro m g _
  refine (θ_run _ _ _).mono (fun r h => ?_) (Cert.FfnUpRefIdeal.Value.run m g)
  exact ⟨fun c => (h c).2, sem_eq_zero_of_no_sems (by decide) r.2⟩

/-- The reference of the merge ends, its arguments unchanged. -/
theorem merge : Cert.quiescent_MergeRefIdeal := by
  intro m g _
  refine (θ_run _ _ _).mono (fun r h => ?_) (Cert.MergeRefIdeal.Value.run m g)
  exact ⟨fun c => (h c).2, sem_eq_zero_of_no_sems (by decide) r.2⟩

/-- The reference of the output projection ends, its arguments unchanged. -/
theorem outProj : Cert.quiescent_OutProjRefIdeal := by
  intro m g _
  refine (θ_run _ _ _).mono (fun r h => ?_) (Cert.OutProjRefIdeal.Value.run m g)
  exact ⟨fun c => (h c).2, sem_eq_zero_of_no_sems (by decide) r.2⟩

/-- The reference of the feed-forward down projection ends, its arguments unchanged. -/
theorem ffnDown : Cert.quiescent_FfnDownRefIdeal := by
  intro m g _
  refine (θ_run _ _ _).mono (fun r h => ?_) (Cert.FfnDownRefIdeal.Value.run m g)
  exact ⟨fun c => (h c).2, sem_eq_zero_of_no_sems (by decide) r.2⟩

/-- The reference of the feed-forward activation ends, its arguments unchanged. -/
theorem ffnAct : Cert.quiescent_FfnActRefIdeal := by
  intro m g _
  refine (θ_run _ _ _).mono (fun r h => ?_) (Cert.FfnActRefIdeal.Value.run m g)
  exact ⟨fun c => (h c).2, sem_eq_zero_of_no_sems (by decide) r.2⟩

/-- The reference of the gated convolution ends, its arguments unchanged. -/
theorem convMixer : Cert.quiescent_ConvMixerRefIdeal := by
  intro m g _
  refine (θ_run _ _ _).mono (fun r h => ?_) (Cert.ConvMixerRefIdeal.Value.run m g)
  exact ⟨fun c => (h c).2, sem_eq_zero_of_no_sems (by decide) r.2⟩

/-- The reference of the queries' preparation ends, its arguments unchanged. -/
theorem headQueries : Cert.quiescent_HeadQueriesRefIdeal := by
  intro m g _
  refine (θ_run _ _ _).mono (fun r h => ?_) (Cert.HeadQueriesRefIdeal.Value.run m g)
  exact ⟨fun c => (h c).2, sem_eq_zero_of_no_sems (by decide) r.2⟩

/-- The reference of the modulation ends, its arguments unchanged. -/
theorem modulation : Cert.quiescent_ModulationRefIdeal := by
  intro m g _
  refine (θ_run _ _ _).mono (fun r h => ?_) (Cert.ModulationRefIdeal.Value.run m g)
  exact ⟨fun c => (h c).2, sem_eq_zero_of_no_sems (by decide) r.2⟩

/-- The reference of the keys' preparation ends, its arguments unchanged. -/
theorem headKeys : Cert.quiescent_HeadKeysRefIdeal := by
  intro m g _
  refine (θ_run _ _ _).mono (fun r h => ?_) (Cert.HeadKeysRefIdeal.Value.run m g)
  exact ⟨fun c => (h c).2, sem_eq_zero_of_no_sems (by decide) r.2⟩

/-- The reference of the values' preparation ends, its arguments unchanged. -/
theorem headValues : Cert.quiescent_HeadValuesRefIdeal := by
  intro m g _
  refine (θ_run _ _ _).mono (fun r h => ?_) (Cert.HeadValuesRefIdeal.Value.run m g)
  exact ⟨fun c => (h c).2, sem_eq_zero_of_no_sems (by decide) r.2⟩

end Cert.Reference

namespace Cert.Proof

/-- All the claims: the shape relations of the programs first, then the runs, then the equations. -/
theorem claim : Cert.Claim :=
  ⟨Cert.Attn.Gen.facts, Cert.AttnIdeal.Gen.facts, Cert.AttnRefIdeal.Gen.facts, Cert.InProj.Gen.facts, Cert.InProjIdeal.Gen.facts, Cert.InProjRefIdeal.Gen.facts, Cert.FfnUp.Gen.facts, Cert.FfnUpIdeal.Gen.facts, Cert.FfnUpRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.FfnDown.Gen.facts, Cert.FfnDownIdeal.Gen.facts, Cert.FfnDownRefIdeal.Gen.facts,
    Cert.FfnAct.Gen.facts, Cert.FfnActIdeal.Gen.facts, Cert.FfnActRefIdeal.Gen.facts, Cert.ConvMixer.Gen.facts, Cert.ConvMixerIdeal.Gen.facts, Cert.ConvMixerRefIdeal.Gen.facts, Cert.HeadQueries.Gen.facts, Cert.HeadQueriesIdeal.Gen.facts, Cert.HeadQueriesRefIdeal.Gen.facts,
    Cert.Modulation.Gen.facts, Cert.ModulationIdeal.Gen.facts, Cert.ModulationRefIdeal.Gen.facts,
    Cert.HeadKeys.Gen.facts, Cert.HeadKeysIdeal.Gen.facts, Cert.HeadKeysRefIdeal.Gen.facts, Cert.HeadValues.Gen.facts, Cert.HeadValuesIdeal.Gen.facts, Cert.HeadValuesRefIdeal.Gen.facts,
    Cert.Pre_finite_queries_and_keys.Gen.facts,
    fun m ρ _ => Cert.Attn.Gen.frame m ρ,
    fun m ρ _ => Cert.AttnIdeal.Gen.frame m ρ,
    fun m ρ _ => Cert.AttnIdeal.Gen.frame m ρ,
    Reference.attn,
    Reference.attnFinite,
    fun m ρ _ => Cert.InProj.Gen.frame m ρ,
    fun m ρ _ => Cert.InProjIdeal.Gen.frame m ρ,
    Reference.inProj,
    fun m ρ _ => Cert.FfnUp.Gen.frame m ρ,
    fun m ρ _ => Cert.FfnUpIdeal.Gen.frame m ρ,
    Reference.ffnUp,
    fun m ρ _ => Cert.Merge.Gen.frame m ρ,
    fun m ρ _ => Cert.MergeIdeal.Gen.frame m ρ,
    Reference.merge,
    fun m ρ _ => Cert.OutProj.Gen.frame m ρ,
    fun m ρ _ => Cert.OutProjIdeal.Gen.frame m ρ,
    Reference.outProj,
    fun m ρ _ => Cert.FfnDown.Gen.frame m ρ,
    fun m ρ _ => Cert.FfnDownIdeal.Gen.frame m ρ,
    Reference.ffnDown,
    fun m ρ _ => Cert.FfnAct.Gen.frame m ρ,
    fun m ρ _ => Cert.FfnActIdeal.Gen.frame m ρ,
    Reference.ffnAct,
    fun m ρ _ => Cert.ConvMixer.Gen.frame m ρ,
    fun m ρ _ => Cert.ConvMixerIdeal.Gen.frame m ρ,
    Reference.convMixer,
    fun m ρ _ => Cert.HeadQueries.Gen.frame m ρ,
    fun m ρ _ => Cert.HeadQueriesIdeal.Gen.frame m ρ,
    Reference.headQueries,
    fun m ρ _ => Cert.Modulation.Gen.frame m ρ,
    fun m ρ _ => Cert.ModulationIdeal.Gen.frame m ρ,
    Reference.modulation,
    fun m ρ _ => Cert.HeadKeys.Gen.frame m ρ,
    fun m ρ _ => Cert.HeadKeysIdeal.Gen.frame m ρ,
    Reference.headKeys,
    fun m ρ _ => Cert.HeadValues.Gen.frame m ρ,
    fun m ρ _ => Cert.HeadValuesIdeal.Gen.frame m ρ,
    Reference.headValues,
    trivial,
    Cert.Attention.attn,
    trivial,
    Cert.Projections.inProj,
    trivial,
    Cert.Projections.ffnUp,
    trivial,
    Cert.Projections.merge,
    trivial,
    Cert.Projections.outProj,
    trivial,
    Cert.Projections.ffnDown,
    trivial,
    Cert.Preparations.ffnAct,
    trivial,
    Cert.Preparations.convMixer,
    trivial,
    Cert.Preparations.headQueries,
    trivial,
    Cert.Preparations.modulation,
    trivial,
    Cert.Operands.headKeys,
    trivial,
    Cert.Operands.headValues⟩

end Cert.Proof

end
